-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .bf16) (main_arg1 : FVec F S512x512 .bf16) (main_arg2 : FVec F S512x512 .bf16) (main_arg3 : FVec F S2x128x8x64 .bf16) (main_arg4 : FVec F S2x128x8x64 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : IVec S_ 1 := andi main_v4 main_v9
  let main_v11 : FVec F S2x128x8x64 .f32 := (extf .f32 · bitsLt_bf16_f32) main_arg3
  let main_v12 : FVec F S2x128x8x64 .f32 := Host.absf main_v11
  let main_cst_2 : FVec F S_ .f32 := constant S_ .f32 0x7F800000#32
  let main_v13 : FVec F S2x128x8x64 .f32 := broadcastInDim S2x128x8x64 ![] bcast_S_S2x128x8x64 main_cst_2
  let main_v14 : IVec S2x128x8x64 1 := cmpf .olt main_v12 main_v13
  let main_c_3 : IVec S_ 1 := constantI S_ 1 1#1
  let main_v15 : IVec S_ 1 := (fun x v => Host.reduce IntOp.andi x v reducesTo_S2x128x8x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x512 : Shape := ⟨2, ![512, 512]⟩
abbrev S2x4096x8x64 : Shape := ⟨4, ![2, 4096, 8, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x128x512 .bf16) (main_arg1 : FVec F S512x512 .bf16) (main_arg2 : FVec F S512x512 .bf16) (main_arg3 : FVec F S2x4096x8x64 .bf16) (main_arg4 : FVec F S2x4096x8x64 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : IVec S_ 1 := andi main_v4 main_v9
  let main_v11 : FVec F S2x4096x8x64 .f32 := (extf .f32 · bitsLt_bf16_f32) main_arg3
  let main_v12 : FVec F S2x4096x8x64 .f32 := Host.absf main_v11
  let main_cst_2 : FVec F S_ .f32 := constant S_ .f32 0x7F800000#32
  let main_v13 : FVec F S2x4096x8x64 .f32 := broadcastInDim S2x4096x8x64 ![] bcast_S_S2x4096x8x64 main_cst_2
  let main_v14 : IVec S2x4096x8x64 1 := cmpf .olt main_v12 main_v13
  let main_c_3 : IVec S_ 1 := constantI S_ 1 1#1
  let main_v15 : IVec S_ 1 := (fun x v => Host.reduce IntOp.andi x v reducesTo_S2x4096x8x64_S_d0_1_2_3 h_S_) main_v14 main_c_3
  let main_v16 : IVec S_ 1 := andi main_v10 main_v15
  main_v16
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x640 : Shape := ⟨2, ![256, 640]⟩
abbrev S2x5x128x640 : Shape := ⟨4, ![2, 5, 128, 640]⟩
abbrev S2x5 : Shape := ⟨2, ![2, 5]⟩
abbrev S_ : Shape := ⟨0, ![]⟩
abbrev S256x512 : Shape := ⟨2, ![256, 512]⟩
abbrev S1x128x8x64 : Shape := ⟨4, ![1, 128, 8, 64]⟩
abbrev S128x8x64 : Shape := ⟨3, ![128, 8, 64]⟩
abbrev S128x512 : Shape := ⟨2, ![128, 512]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x120 : Shape := ⟨2, ![128, 120]⟩
abbrev S1x1 : Shape := ⟨2, ![1, 1]⟩
abbrev S1x1x128x640 : Shape := ⟨4, ![1, 1, 128, 640]⟩
abbrev S128x640 : Shape := ⟨2, ![128, 640]⟩
abbrev S256x64 : Shape := ⟨2, ![256, 64]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x128x8x64, .bf16⟩
  | .hbm, ⟨4, _⟩ => ⟨S2x128x8x64, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .f32⟩
  | .local _ .vmem, ⟨6, _⟩ => ⟨S256x640, .bf16⟩
  | .local _ .vmem, ⟨7, _⟩ => ⟨S2x5x128x640, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_70 : BitVec 32 := 1#32
  let v158 : BitVec 32 := Scalar.xori v2 c1_i32_70
  let c1_i32_77 : BitVec 32 := 1#32
  let v159 : BitVec 32 := Scalar.muli v158 c1_i32_77
  let v160 : BitVec 32 := Scalar.addi c0_i32_78 v159
  v160.toNat
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v300 : BitVec 32 := Scalar.xori v2 c1_i32_141
  let c1_i32_148 : BitVec 32 := 1#32
  let v301 : BitVec 32 := Scalar.muli v300 c1_i32_148
  let v302 : BitVec 32 := Scalar.addi c0_i32_149 v301
  v302.toNat
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_185 : BitVec 32 := 2#32
  let v330 : BitVec 32 := Scalar.xori v2 c2_i32_185
  let c1_i32_192 : BitVec 32 := 1#32
  let v331 : BitVec 32 := Scalar.muli v330 c1_i32_192
  let v332 : BitVec 32 := Scalar.addi c0_i32_193 v331
  v332.toNat
def k0_dev9 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_230 : BitVec 32 := 2#32
  let v360 : BitVec 32 := Scalar.xori v2 c2_i32_230
  let c1_i32_237 : BitVec 32 := 1#32
  let v361 : BitVec 32 := Scalar.muli v360 c1_i32_237
  let v362 : BitVec 32 := Scalar.addi c0_i32_238 v361
  v362.toNat
def k0_dev10 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_275 : BitVec 32 := 4#32
  let v390 : BitVec 32 := Scalar.xori v2 c4_i32_275
  let c1_i32_282 : BitVec 32 := 1#32
  let v391 : BitVec 32 := Scalar.muli v390 c1_i32_282
  let v392 : BitVec 32 := Scalar.addi c0_i32_283 v391
  v392.toNat
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_320 : BitVec 32 := 4#32
  let v420 : BitVec 32 := Scalar.xori v2 c4_i32_320
  let c1_i32_327 : BitVec 32 := 1#32
  let v421 : BitVec 32 := Scalar.muli v420 c1_i32_327
  let v422 : BitVec 32 := Scalar.addi c0_i32_328 v421
  v422.toNat
def k0_dev12 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_364 : BitVec 32 := 8#32
  let v450 : BitVec 32 := Scalar.xori v2 c8_i32_364
  let c1_i32_370 : BitVec 32 := 1#32
  let v451 : BitVec 32 := Scalar.muli v450 c1_i32_370
  let v452 : BitVec 32 := Scalar.addi c0_i32_371 v451
  v452.toNat
def k0_dev13 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_408 : BitVec 32 := 8#32
  let v480 : BitVec 32 := Scalar.xori v2 c8_i32_408
  let c1_i32_415 : BitVec 32 := 1#32
  let v481 : BitVec 32 := Scalar.muli v480 c1_i32_415
  let v482 : BitVec 32 := Scalar.addi c0_i32_416 v481
  v482.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_452 : BitVec 32 := 16#32
  let v510 : BitVec 32 := Scalar.xori v2 c16_i32_452
  let c1_i32_459 : BitVec 32 := 1#32
  let v511 : BitVec 32 := Scalar.muli v510 c1_i32_459
  let v512 : BitVec 32 := Scalar.addi c0_i32_460 v511
  v512.toNat
def k0_dev15 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_497 : BitVec 32 := 16#32
  let v540 : BitVec 32 := Scalar.xori v2 c16_i32_497
  let c1_i32_504 : BitVec 32 := 1#32
  let v541 : BitVec 32 := Scalar.muli v540 c1_i32_504
  let v542 : BitVec 32 := Scalar.addi c0_i32_505 v541
  v542.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x4096x8x64 : Shape := ⟨4, ![2, 4096, 8, 64]⟩
abbrev S2x128x8x64 : Shape := ⟨4, ![2, 128, 8, 64]⟩
abbrev S2x8x128x4096 : Shape := ⟨4, ![2, 8, 128, 4096]⟩
abbrev S_ : Shape := ⟨0, ![]⟩
abbrev S2x8x128 : Shape := ⟨3, ![2, 8, 128]⟩
abbrev S2x8x128x1 : Shape := ⟨4, ![2, 8, 128, 1]⟩
abbrev S2x8x64x128 : Shape := ⟨4, ![2, 8, 64, 128]⟩
abbrev S2x128x8x1 : Shape := ⟨4, ![2, 128, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x4096x8x64, .bf16⟩
  | .hbm, ⟨4, _⟩ => ⟨S2x4096x8x64, .bf16⟩
  | .hbm, ⟨5, _⟩ => ⟨S2x128x512, .f32⟩
  | .hbm, ⟨6, _⟩ => ⟨S512x512, .f32⟩
  | .hbm, ⟨7, _⟩ => ⟨S2x128x512, .f32⟩
  | .hbm, ⟨8, _⟩ => ⟨S2x128x8x64, .f32⟩
  | .hbm, ⟨9, _⟩ => ⟨S2x4096x8x64, .f32⟩
  | .hbm, ⟨10, _⟩ => ⟨S2x8x128x4096, .f32⟩
  | .hbm, ⟨11, _⟩ => ⟨S_, .f32⟩
  | .hbm, ⟨12, _⟩ => ⟨S2x8x128x4096, .f32⟩
  | .hbm, ⟨13, _⟩ => ⟨S2x8x128x4096, .f32⟩
  | .hbm, ⟨14, _⟩ => ⟨S_, .f32⟩
  | .hbm, ⟨15, _⟩ => ⟨S2x8x128, .f32⟩
  | .hbm, ⟨16, _⟩ => ⟨S2x8x128x1, .f32⟩
  | .hbm, ⟨17, _⟩ => ⟨S2x8x128x4096, .f32⟩
  | .hbm, ⟨18, _⟩ => ⟨S2x8x128x4096, .f32⟩
  | .hbm, ⟨19, _⟩ => ⟨S2x8x128x4096, .f32⟩
  | .hbm, ⟨20, _⟩ => ⟨S_, .f32⟩
  | .hbm, ⟨21, _⟩ => ⟨S2x8x128, .f32⟩
  | .hbm, ⟨22, _⟩ => ⟨S2x8x128x1, .f32⟩
  | .hbm, ⟨23, _⟩ => ⟨S2x4096x8x64, .f32⟩
  | .hbm, ⟨24, _⟩ => ⟨S2x8x64x128, .f32⟩
  | .hbm, ⟨25, _⟩ => ⟨S2x128x8x64, .f32⟩
  | .hbm, ⟨26, _⟩ => ⟨S2x128x8x1, .f32⟩
  | .hbm, ⟨27, _⟩ => ⟨S2x128x8x64, .f32⟩
  | .hbm, ⟨28, _⟩ => ⟨S2x128x8x64, .f32⟩
  | .hbm, ⟨29, _⟩ => ⟨S2x128x512, .f32⟩
  | .hbm, ⟨30, _⟩ => ⟨S512x512, .f32⟩
  | .hbm, ⟨31, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Contents.lean ====
/-
# What the buffers hold

The kernel adds up, over the 32 devices, a 128x640 block per batch: the unnormalised attention rows of eight heads (512
columns), the eight row sums (8 columns) and zeros. This module names the memrefs the transfers go through and the values of
a device's block: `part` (the device's own contribution, as its nine stores leave it) and `acc` (after `s` exchanges).
-/
module

public import proofs.«01_k».proof.Proof.Gen.KernelIdeal
public import proofs.«01_k».proof.Proof.Gen.KernelIdeal.Skeleton
public import Idealize.ShloMosaic.Lib.Pipeline.Kit
public import Idealize.ShloMosaic.Lib.Tactic

@[expose] public section

noncomputable section

namespace Cert.KernelRun

open Cert.KernelIdeal Cert.KernelIdeal.Gen
open Idealize.ShloMosaic
open Idealize.ShloMosaic.TcCoe

variable {F : FTy → Type} [FloatOps F]

/-! ## The partners -/

theorem peer_lt (s : Fin 5) (c : Fin 32) : c.val ^^^ 2 ^ s.val < 32 := by revert s c; decide

/-- The device `c` exchanges with at step `s`: the one whose number differs in bit `s`. -/
def peer (s : Fin 5) (c : Dev nD) : Dev nD := ⟨c.val ^^^ 2 ^ s.val, peer_lt s c⟩

theorem peer_peer (s : Fin 5) (c : Dev nD) : peer s (peer s c) = c := by revert s c; decide

/-- The exchange of step `s` as a permutation of the devices. -/
def peerEquiv (s : Fin 5) : Dev nD ≃ Dev nD := ⟨peer s, peer s, peer_peer s, peer_peer s⟩

/-! ## The memrefs -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0
abbrev oM : Memref sig .tc .vmem S2x128x512 .f32 := Memref.whole cc0_stg5_0
abbrev aM : Memref sig .tc .vmem S256x640 .bf16 := Memref.whole cc0_scratch0
abbrev rM : Memref sig .tc .vmem S2x5x128x640 .bf16 := Memref.whole cc0_scratch1

theorem inbH (st : Fin 2) : ∀ a, (![128 * st.val, 0] : Fin 2 → Nat) a + S128x640.size a ≤ S256x640.size a := by revert st; decide
theorem inbSlot (st : Fin 2) (s : Fin 5) :
    ∀ a, (![st.val, s.val, 0, 0] : Fin 4 → Nat) a + S1x1x128x640.size a ≤ S2x5x128x640.size a := by revert st s; decide
theorem inbSem (st : Fin 2) (s : Fin 5) : ∀ a, (![st.val, s.val] : Fin 2 → Nat) a + S1x1.size a ≤ S2x5.size a := by revert st s; decide

/-- The rows of batch `st` in the accumulator, -/
abbrev rectH (st : Fin 2) : Rect S256x640 := Rect.unit (s := S256x640) ![128 * st.val, 0] S128x640.size (inbH st)
/-- and the landing slot of batch `st` at step `s`. -/
abbrev rectSlot (st : Fin 2) (s : Fin 5) : Rect S2x5x128x640 :=
  Rect.unit (s := S2x5x128x640) ![st.val, s.val, 0, 0] S1x1x128x640.size (inbSlot st s)

abbrev accV (st : Fin 2) : Memref sig .tc .vmem S128x640 .bf16 := aM.slice (rectH st) (fun _ => rfl)
abbrev slotV (st : Fin 2) (s : Fin 5) : Memref sig .tc .vmem S128x640 .bf16 :=
  (rM.slice (rectSlot st s) (fun _ => rfl)).squeeze S128x640 squeezes_S1x1x128x640_S128x640

/-- The semaphore a transfer of batch `st` at step `s` signals on the sender, -/
def sendS (st : Fin 2) (s : Fin 5) : DmaSem sig :=
  ((cc0_scratch2.slice (Rect.unit (s := S2x5) ![st.val, s.val] S1x1.size (inbSem st s))).squeeze S_ squeezes_S1x1_S_).sem
/-- and the one it signals on the receiver. -/
def recvS (st : Fin 2) (s : Fin 5) : DmaSem sig :=
  ((cc0_scratch3.slice (Rect.unit (s := S2x5) ![st.val, s.val] S1x1.size (inbSem st s))).squeeze S_ squeezes_S1x1_S_).sem

/-! ## The values -/

section Values

variable (x : (cc0_stg0_0 : Ref sig .tc).ty.Contents (Elt F)) (wq wo : (cc0_stg1_0 : Ref sig .tc).ty.Contents (Elt F))
  (k v : (cc0_stg3_0 : Ref sig .tc).ty.Contents (Elt F))

abbrev rectB0 : Rect S2x128x8x64 := Rect.unit (s := S2x128x8x64) ![0, 0, 0, 0] S1x128x8x64.size inb_S2x128x8x64_S1x128x8x64_0_0_0_0
abbrev rectB1 : Rect S2x128x8x64 := Rect.unit (s := S2x128x8x64) ![1, 0, 0, 0] S1x128x8x64.size inb_S2x128x8x64_S1x128x8x64_1_0_0_0

def v21 : FVec F S256x512 .bf16 := k0_pay1 x
def v23 : FVec F S512x512 .bf16 := k0_pay2 wq
/-- The query rows of both batches. -/
def v25 : FVec F S256x512 .bf16 := k0_pay3 (v21 x) (v23 wq)
/-- The key and value rows as loaded, per batch. -/
def v26 : Vec F S1x128x8x64 .bf16 := kM.view.readAt (Elt F) rectB0.toLoadRect k
def v29 : Vec F S1x128x8x64 .bf16 := vM.view.readAt (Elt F) rectB0.toLoadRect v
def v168 : Vec F S1x128x8x64 .bf16 := kM.view.readAt (Elt F) rectB1.toLoadRect k
def v171 : Vec F S1x128x8x64 .bf16 := vM.view.readAt (Elt F) rectB1.toLoadRect v
def v28 : FVec F S128x512 .bf16 := k0_pay4 (v26 k)
def v31 : FVec F S128x512 .bf16 := k0_pay5 (v29 v)
def v170 : FVec F S128x512 .bf16 := k0_pay31 (v168 k)
def v172 : FVec F S128x8x64 .bf16 := k0_pay32 (v171 v)
def v173 : FVec F S128x512 .bf16 := k0_pay33 (v172 v)

/-- A store into the accumulator: its rectangle and its value. -/
abbrev P (F : FTy → Type) : Type := View.Piece (Elt F) S256x640 .bf16

/-- The nine stores of batch 0, the last first. -/
def pieces0 : List (P F) :=
  [⟨Rect.unit (s := S256x640) ![0, 512] S128x128.size inb_S256x640_S128x128_0_512,
      k0_pay30 (k0_pay7 (v21 x) (v23 wq) (v26 k)) (k0_pay10 (v21 x) (v23 wq) (v26 k)) (k0_pay13 (v25 x wq) (v28 k)) (k0_pay16 (v25 x wq) (v28 k))
        (k0_pay19 (v25 x wq) (v28 k)) (k0_pay23 (v25 x wq) (v28 k)) (k0_pay26 (v25 x wq) (v28 k)) (k0_pay28 (v25 x wq) (v28 k))⟩,
   ⟨Rect.unit (s := S256x640) ![0, 448] S128x64.size inb_S256x640_S128x64_0_448, k0_pay29 (v31 v) (k0_pay28 (v25 x wq) (v28 k))⟩,
   ⟨Rect.unit (s := S256x640) ![0, 384] S128x64.size inb_S256x640_S128x64_0_384, k0_pay27 (v25 x wq) (v28 k) (v31 v)⟩,
   ⟨Rect.unit (s := S256x640) ![0, 320] S128x64.size inb_S256x640_S128x64_0_320, k0_pay24 (v25 x wq) (v28 k) (v31 v)⟩,
   ⟨Rect.unit (s := S256x640) ![0, 256] S128x64.size inb_S256x640_S128x64_0_256, k0_pay21 (k0_pay20 (v25 x wq) (v28 k) (v31 v))⟩,
   ⟨Rect.unit (s := S256x640) ![0, 192] S128x64.size inb_S256x640_S128x64_0_192, k0_pay17 (v25 x wq) (v28 k) (v31 v)⟩,
   ⟨Rect.unit (s := S256x640) ![0, 128] S128x64.size inb_S256x640_S128x64_0_128, k0_pay14 (v25 x wq) (v28 k) (v31 v)⟩,
   ⟨Rect.unit (s := S256x640) ![0, 64] S128x64.size inb_S256x640_S128x64_0_64, k0_pay11 (v21 x) (v23 wq) (v26 k) (v29 v)⟩,
   ⟨Rect.unit (s := S256x640) ![0, 0] S128x64.size inb_S256x640_S128x64_0_0, k0_pay8 (v21 x) (v23 wq) (v26 k) (v29 v)⟩]

/-- The nine stores of batch 1, the last first. -/
def pieces1 : List (P F) :=
  [⟨Rect.unit (s := S256x640) ![128, 512] S128x128.size inb_S256x640_S128x128_128_512,
      k0_pay57 (k0_pay56 (v25 x wq) (v170 k) (k0_pay35 (v25 x wq) (v170 k)) (k0_pay38 (v25 x wq) (v170 k)) (k0_pay41 (v25 x wq) (v170 k))
        (k0_pay45 (v25 x wq) (v170 k)) (k0_pay48 (v25 x wq) (v170 k)) (k0_pay50 (v25 x wq) (v170 k)))⟩,
   ⟨Rect.unit (s := S256x640) ![128, 448] S128x64.size inb_S256x640_S128x64_128_448, k0_pay55 (v25 x wq) (v170 k) (v173 v)⟩,
   ⟨Rect.unit (s := S256x640) ![128, 384] S128x64.size inb_S256x640_S128x64_128_384, k0_pay53 (v25 x wq) (v170 k) (v173 v)⟩,
   ⟨Rect.unit (s := S256x640) ![128, 320] S128x64.size inb_S256x640_S128x64_128_320, k0_pay51 (v173 v) (k0_pay50 (v25 x wq) (v170 k))⟩,
   ⟨Rect.unit (s := S256x640) ![128, 256] S128x64.size inb_S256x640_S128x64_128_256, k0_pay49 (v25 x wq) (v170 k) (v173 v)⟩,
   ⟨Rect.unit (s := S256x640) ![128, 192] S128x64.size inb_S256x640_S128x64_128_192, k0_pay46 (v25 x wq) (v170 k) (v173 v)⟩,
   ⟨Rect.unit (s := S256x640) ![128, 128] S128x64.size inb_S256x640_S128x64_128_128, k0_pay43 (k0_pay42 (v25 x wq) (v170 k) (v172 v))⟩,
   ⟨Rect.unit (s := S256x640) ![128, 64] S128x64.size inb_S256x640_S128x64_128_64, k0_pay39 (v25 x wq) (v170 k) (v172 v)⟩,
   ⟨Rect.unit (s := S256x640) ![128, 0] S128x64.size inb_S256x640_S128x64_128_0, k0_pay36 (v25 x wq) (v170 k) (v172 v)⟩]

def pieces (st : Fin 2) : List (P F) := match st with
  | 0 => pieces0 x wq k v
  | 1 => pieces1 x wq k v

/-- Contents the stores are read over; every element of the batch's rows is stored, so which they are does not matter. -/
def blank : (cc0_scratch0 : Ref sig .tc).ty.Contents (Elt F) := fun _ => (Scalar.ofBits .bf16 0x0000#16 : F .bf16)

/-- A device's own contribution to batch `st`. -/
def part (st : Fin 2) : S128x640.Idx → Elt F .bf16 :=
  (accV st).view.read (Elt F) (aM.view.writes (Elt F) blank (pieces x wq k v st))

end Values

theorem cover_cons {p : P F} {L : List (P F)} {z : S256x640.Idx} (h : z ∈ p.1.set ∨ ∃ q ∈ L, z ∈ q.1.set) :
    ∃ q ∈ p :: L, z ∈ q.1.set := by
  rcases h with h | ⟨q, hq, hz⟩
  · exact ⟨p, List.mem_cons_self, h⟩
  · exact ⟨q, List.mem_cons_of_mem _ hq, hz⟩

theorem mem_unit2 {off size : Fin S256x640.rank → ℕ} (inb : ∀ a, off a + size a ≤ S256x640.size a) {z : S256x640.Idx}
    (h0 : off 0 ≤ (z 0).val ∧ (z 0).val < off 0 + size 0) (h1 : off 1 ≤ (z 1).val ∧ (z 1).val < off 1 + size 1) :
    z ∈ (Rect.unit off size inb).set := by
  rw [Rect.mem_set_unit]
  exact Fin.forall_fin_two.mpr ⟨h0, h1⟩

/-- The nine rectangles of batch `st` fill its rows. -/
theorem pieces_cover (x : (cc0_stg0_0 : Ref sig .tc).ty.Contents (Elt F)) (wq : (cc0_stg1_0 : Ref sig .tc).ty.Contents (Elt F))
    (k v : (cc0_stg3_0 : Ref sig .tc).ty.Contents (Elt F)) (st : Fin 2) (y : S128x640.Idx) :
    ∃ p ∈ pieces x wq k v st, (rectH st).emb y ∈ p.1.set := by
  have h0 : (y 0).val < 128 := (y 0).isLt
  have h1 : (y 1).val < 640 := (y 1).isLt
  have e0 : ((rectH st).emb y 0).val = 128 * st.val + 1 * (y 0).val := rfl
  have e1 : ((rectH st).emb y 1).val = 0 + 1 * (y 1).val := rfl
  generalize (rectH st).emb y = z at e0 e1
  fin_cases st
  · simp only [Fin.zero_eta, Fin.val_zero, Nat.mul_zero] at e0
    show ∃ p ∈ pieces0 x wq k v, z ∈ p.1.set
    unfold pieces0
    refine cover_cons ?_
    by_cases c0 : 512 ≤ (y 1).val
    · exact .inl (mem_unit2 inb_S256x640_S128x128_0_512 (by show 0 ≤ (z 0).val ∧ (z 0).val < 0 + 128; omega) (by show 512 ≤ (z 1).val ∧ (z 1).val < 512 + 128; omega))
    refine .inr ?_
    refine cover_cons ?_
    by_cases c1 : 448 ≤ (y 1).val
    · exact .inl (mem_unit2 inb_S256x640_S128x64_0_448 (by show 0 ≤ (z 0).val ∧ (z 0).val < 0 + 128; omega) (by show 448 ≤ (z 1).val ∧ (z 1).val < 448 + 64; omega))
    refine .inr ?_
    refine cover_cons ?_
    by_cases c2 : 384 ≤ (y 1).val
    · exact .inl (mem_unit2 inb_S256x640_S128x64_0_384 (by show 0 ≤ (z 0).val ∧ (z 0).val < 0 + 128; omega) (by show 384 ≤ (z 1).val ∧ (z 1).val < 384 + 64; omega))
    refine .inr ?_
    refine cover_cons ?_
    by_cases c3 : 320 ≤ (y 1).val
    · exact .inl (mem_unit2 inb_S256x640_S128x64_0_320 (by show 0 ≤ (z 0).val ∧ (z 0).val < 0 + 128; omega) (by show 320 ≤ (z 1).val ∧ (z 1).val < 320 + 64; omega))
    refine .inr ?_
    refine cover_cons ?_
    by_cases c4 : 256 ≤ (y 1).val
    · exact .inl (mem_unit2 inb_S256x640_S128x64_0_256 (by show 0 ≤ (z 0).val ∧ (z 0).val < 0 + 128; omega) (by show 256 ≤ (z 1).val ∧ (z 1).val < 256 + 64; omega))
    refine .inr ?_
    refine cover_cons ?_
    by_cases c5 : 192 ≤ (y 1).val
    · exact .inl (mem_unit2 inb_S256x640_S128x64_0_192 (by show 0 ≤ (z 0).val ∧ (z 0).val < 0 + 128; omega) (by show 192 ≤ (z 1).val ∧ (z 1).val < 192 + 64; omega))
    refine .inr ?_
    refine cover_cons ?_
    by_cases c6 : 128 ≤ (y 1).val
    · exact .inl (mem_unit2 inb_S256x640_S128x64_0_128 (by show 0 ≤ (z 0).val ∧ (z 0).val < 0 + 128; omega) (by show 128 ≤ (z 1).val ∧ (z 1).val < 128 + 64; omega))
    refine .inr ?_
    refine cover_cons ?_
    by_cases c7 : 64 ≤ (y 1).val
    · exact .inl (mem_unit2 inb_S256x640_S128x64_0_64 (by show 0 ≤ (z 0).val ∧ (z 0).val < 0 + 128; omega) (by show 64 ≤ (z 1).val ∧ (z 1).val < 64 + 64; omega))
    refine .inr ?_
    refine cover_cons ?_
    by_cases c8 : 0 ≤ (y 1).val
    · exact .inl (mem_unit2 inb_S256x640_S128x64_0_0 (by show 0 ≤ (z 0).val ∧ (z 0).val < 0 + 128; omega) (by show 0 ≤ (z 1).val ∧ (z 1).val < 0 + 64; omega))
    refine .inr ?_
    exact absurd (Nat.zero_le _) c8
  · simp only [Fin.mk_one, Fin.val_one, Nat.mul_one] at e0
    show ∃ p ∈ pieces1 x wq k v, z ∈ p.1.set
    unfold pieces1
    refine cover_cons ?_
    by_cases c0 : 512 ≤ (y 1).val
    · exact .inl (mem_unit2 inb_S256x640_S128x128_128_512 (by show 128 ≤ (z 0).val ∧ (z 0).val < 128 + 128; omega) (by show 512 ≤ (z 1).val ∧ (z 1).val < 512 + 128; omega))
    refine .inr ?_
    refine cover_cons ?_
    by_cases c1 : 448 ≤ (y 1).val
    · exact .inl (mem_unit2 inb_S256x640_S128x64_128_448 (by show 128 ≤ (z 0).val ∧ (z 0).val < 128 + 128; omega) (by show 448 ≤ (z 1).val ∧ (z 1).val < 448 + 64; omega))
    refine .inr ?_
    refine cover_cons ?_
    by_cases c2 : 384 ≤ (y 1).val
    · exact .inl (mem_unit2 inb_S256x640_S128x64_128_384 (by show 128 ≤ (z 0).val ∧ (z 0).val < 128 + 128; omega) (by show 384 ≤ (z 1).val ∧ (z 1).val < 384 + 64; omega))
    refine .inr ?_
    refine cover_cons ?_
    by_cases c3 : 320 ≤ (y 1).val
    · exact .inl (mem_unit2 inb_S256x640_S128x64_128_320 (by show 128 ≤ (z 0).val ∧ (z 0).val < 128 + 128; omega) (by show 320 ≤ (z 1).val ∧ (z 1).val < 320 + 64; omega))
    refine .inr ?_
    refine cover_cons ?_
    by_cases c4 : 256 ≤ (y 1).val
    · exact .inl (mem_unit2 inb_S256x640_S128x64_128_256 (by show 128 ≤ (z 0).val ∧ (z 0).val < 128 + 128; omega) (by show 256 ≤ (z 1).val ∧ (z 1).val < 256 + 64; omega))
    refine .inr ?_
    refine cover_cons ?_
    by_cases c5 : 192 ≤ (y 1).val
    · exact .inl (mem_unit2 inb_S256x640_S128x64_128_192 (by show 128 ≤ (z 0).val ∧ (z 0).val < 128 + 128; omega) (by show 192 ≤ (z 1).val ∧ (z 1).val < 192 + 64; omega))
    refine .inr ?_
    refine cover_cons ?_
    by_cases c6 : 128 ≤ (y 1).val
    · exact .inl (mem_unit2 inb_S256x640_S128x64_128_128 (by show 128 ≤ (z 0).val ∧ (z 0).val < 128 + 128; omega) (by show 128 ≤ (z 1).val ∧ (z 1).val < 128 + 64; omega))
    refine .inr ?_
    refine cover_cons ?_
    by_cases c7 : 64 ≤ (y 1).val
    · exact .inl (mem_unit2 inb_S256x640_S128x64_128_64 (by show 128 ≤ (z 0).val ∧ (z 0).val < 128 + 128; omega) (by show 64 ≤ (z 1).val ∧ (z 1).val < 64 + 64; omega))
    refine .inr ?_
    refine cover_cons ?_
    by_cases c8 : 0 ≤ (y 1).val
    · exact .inl (mem_unit2 inb_S256x640_S128x64_128_0 (by show 128 ≤ (z 0).val ∧ (z 0).val < 128 + 128; omega) (by show 0 ≤ (z 1).val ∧ (z 1).val < 0 + 64; omega))
    refine .inr ?_
    exact absurd (Nat.zero_le _) c8

theorem read_filled (x : (cc0_stg0_0 : Ref sig .tc).ty.Contents (Elt F)) (wq : (cc0_stg1_0 : Ref sig .tc).ty.Contents (Elt F))
    (k v : (cc0_stg3_0 : Ref sig .tc).ty.Contents (Elt F)) (st : Fin 2) (f : (cc0_scratch0 : Ref sig .tc).ty.Contents (Elt F)) :
    (accV st).view.read (Elt F) (aM.view.writes (Elt F) f (pieces x wq k v st)) = part x wq k v st := by
  funext y
  exact View.read_writes_apply_eq aM.view f aM.view blank ((rectH st).emb y) _ (pieces_cover x wq k v st y)

/-- The block as the slot's load delivers it. -/
def up (W : S128x640.Idx → Elt F .bf16) : Vec F S1x1x128x640 .bf16 :=
  fun i => W ((Shape.reshapeEquiv (Shape.Squeezes.numel_eq squeezes_S1x1x128x640_S128x640)).symm i)

/-- One exchange: the block plus the one that landed. -/
def upd (V W : S128x640.Idx → Elt F .bf16) : S128x640.Idx → Elt F .bf16 := k0_pay58 V (up W)

theorem read_slot (st : Fin 2) (s : Fin 5) (f : (cc0_scratch1 : Ref sig .tc).ty.Contents (Elt F)) :
    rM.view.readAt (Elt F) (rectSlot st s).toLoadRect f = up ((slotV st s).view.read (Elt F) f) := by
  funext i
  show _ = (slotV st s).view.read (Elt F) f _
  have : i = Shape.reshapeEquiv (Shape.Squeezes.numel_eq squeezes_S1x1x128x640_S128x640) ((Shape.reshapeEquiv (Shape.Squeezes.numel_eq squeezes_S1x1x128x640_S128x640)).symm i) :=
    (Equiv.apply_symm_apply _ _).symm
  conv_lhs => rw [this]
  rfl

theorem read_half (st : Fin 2) (f : (cc0_scratch0 : Ref sig .tc).ty.Contents (Elt F)) :
    aM.view.readAt (Elt F) (rectH st).toLoadRect f = (accV st).view.read (Elt F) f := rfl

theorem pay59_eq : k0_pay59 (F := F) = k0_pay58 := rfl
theorem pay61_eq (a b) : k0_pay61 (F := F) (k0_pay60 a b) = k0_pay58 a b := rfl
theorem pay62_eq : k0_pay62 (F := F) = k0_pay58 := rfl
theorem pay63_eq : k0_pay63 (F := F) = k0_pay58 := rfl
theorem pay64_eq : k0_pay64 (F := F) = k0_pay58 := rfl
theorem pay65_eq : k0_pay65 (F := F) = k0_pay58 := rfl
theorem pay66_eq : k0_pay66 (F := F) = k0_pay58 := rfl
theorem pay67_eq : k0_pay67 (F := F) = k0_pay58 := rfl
theorem pay68_eq : k0_pay68 (F := F) = k0_pay58 := rfl

end Cert.KernelRun

end
-- ==== Proof.Protocol.lean ====
/-
# The protocol

Five exchanges, at step `s` with the device whose number differs in bit `s`, each for the two batches. The semaphores of a
device `c`, what is signalled on them, in which order, and what each signal hands over:

* the runtime's barrier semaphore: one unit from each of the five partners; `c` waits for all five before its first store.
  The partner of step `s` hands over its two landing slots of step `s`, with whatever they hold.
* the send semaphore of batch `st`, step `s`: signalled by `c`'s own transfer of that batch and step once its source is
  read; it hands the rows of batch `st` of the accumulator back, holding `acc st s c`.
* the receive semaphore of batch `st`, step `s`: signalled by the partner's transfer; it hands over `c`'s own landing slot
  `(st, s)`, holding the partner's `acc st s`.

Every one is used for one round only. A device waits on its receive semaphore of step `s` having started both transfers
of step `s` (or, for batch 0, of step `s`), so what it still owes lies at later steps: levels 1 for the barrier, `2 + s`
for the receive semaphores of step `s`, 0 for the rest.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging transfers, one for the exchanges (duties `Fin 5`) -/

abbrev D : Type := Fin 5
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The contents -/

def xst (c : Dev nD) : (cc0_stg0_0 : Ref sig .tc).ty.Contents (Elt F) :=
  (win0_0.blk (0 : Fin 1)).view.read (Elt F) (m ((c : Thread nD τ).loc main_arg0))
def wqst (c : Dev nD) : (cc0_stg1_0 : Ref sig .tc).ty.Contents (Elt F) :=
  (win0_1.blk (0 : Fin 1)).view.read (Elt F) (m ((c : Thread nD τ).loc main_arg1))
def wost (c : Dev nD) : (cc0_stg2_0 : Ref sig .tc).ty.Contents (Elt F) :=
  (win0_2.blk (0 : Fin 1)).view.read (Elt F) (m ((c : Thread nD τ).loc main_arg2))
def kst (c : Dev nD) : (cc0_stg3_0 : Ref sig .tc).ty.Contents (Elt F) :=
  (win0_3.blk (0 : Fin 1)).view.read (Elt F) (m ((c : Thread nD τ).loc main_arg3))
def vst (c : Dev nD) : (cc0_stg4_0 : Ref sig .tc).ty.Contents (Elt F) :=
  (win0_4.blk (0 : Fin 1)).view.read (Elt F) (m ((c : Thread nD τ).loc main_arg4))

/-- Device `c`'s rows of batch `st` after `n` exchanges. -/
def acc (st : Fin 2) : ℕ → Dev nD → S128x640.Idx → Elt F .bf16
  | 0, c => part (xst m c) (wqst m c) (kst m c) (vst m c) st
  | n + 1, c => if h : n < 5 then upd (acc st n c) (acc st n (peer ⟨n, h⟩ c)) else acc st n c

theorem acc_succ (st : Fin 2) (s : Fin 5) (c : Dev nD) :
    acc m st (s.val + 1) c = upd (acc m st s.val c) (acc m st s.val (peer s c)) := by
  show (if h : s.val < 5 then _ else _) = _
  rw [dif_pos s.isLt]

/-! ## The cells -/

/-- The runtime's barrier semaphore of collective id 0. -/
abbrev barS : Sem sig := (SemArray.scalar (sig.barrier 0 rfl) : Sems sig S_).sem

/-- The scoped semaphores: send (`false`) or receive (`true`), the batch, the step. -/
abbrev KO : Type := Bool × Fin 2 × Fin 5
/-- All of them, the barrier first. -/
abbrev KI : Type := Option KO

def osem (k : KO) : SemLoc sig := if k.1 then .dma (recvS k.2.1 k.2.2) else .dma (sendS k.2.1 k.2.2)
def csem : KI → SemLoc sig
  | none => .reg barS
  | some k => osem k

/-- Which of them a semaphore is. -/
def decode : SemLoc sig → Option KI
  | .reg q => if q = barS then some none else none
  | .dma q => if h : 6 ≤ q.val then
      some (some (decide (16 ≤ q.val), ⟨(q.val - 6) % 10 / 5, by omega⟩, ⟨(q.val - 6) % 5, by omega⟩)) else none

theorem decode_csem (k : KI) : decode (csem k) = some k := by revert k; decide
theorem csem_injective : Function.Injective csem := fun a b h =>
  Option.some.inj (by rw [← decode_csem a, ← decode_csem b, h])

abbrev kcell (ck : Dev nD × KI) : GSem nD τ sig := ((ck.1 : Thread nD τ), csem ck.2)
abbrev barCell (c : Dev nD) : GSem nD τ sig := ((c : Thread nD τ), .reg barS)
abbrev sendCell (st : Fin 2) (s : Fin 5) (c : Dev nD) : GSem nD τ sig := ((c : Thread nD τ), .dma (sendS st s))
abbrev recvCell (st : Fin 2) (s : Fin 5) (c : Dev nD) : GSem nD τ sig := ((c : Thread nD τ), .dma (recvS st s))

theorem decode_bar : decode (.reg barS) = some none := decode_csem none
theorem decode_send (st : Fin 2) (s : Fin 5) : decode (.dma (sendS st s)) = some (some (false, st, s)) := decode_csem (some (false, st, s))
theorem decode_recv (st : Fin 2) (s : Fin 5) : decode (.dma (recvS st s)) = some (some (true, st, s)) := decode_csem (some (true, st, s))

/-- What one transfer of a 128x640 block adds to a semaphore. -/
abbrev N : ℕ := (slotV 0 0).view.dmaCredit
theorem N_pos : 0 < N := View.dmaCredit_pos _ (by decide)
theorem credit_slot (st : Fin 2) (s : Fin 5) : (slotV st s).view.dmaCredit = N := rfl
theorem credit_acc (st : Fin 2) : (accV st).view.dmaCredit = N := rfl

/-! ## The payloads -/

/-- The landing slot `(st, s)` of `c`, with whatever it holds. -/
def slotAny (st : Fin 2) (s : Fin 5) (c : Dev nD) : sProp 𝕄 :=
  iprop(∃ f, (slotV st s).view.loc (c : Thread nD τ) ↦[(slotV st s).view.set]{fullShare} f)
/-- The landing slot holding `X`. -/
def slotHas (st : Fin 2) (s : Fin 5) (c : Dev nD) (X : S128x640.Idx → Elt F .bf16) : sProp 𝕄 := owns (c : Thread nD τ) (slotV st s) fullShare X
/-- The rows of batch `st` of `c`'s accumulator holding `X`. -/
def half (st : Fin 2) (c : Dev nD) (X : S128x640.Idx → Elt F .bf16) : sProp 𝕄 := owns (c : Thread nD τ) (accV st) fullShare X

def barPay (c : Dev nD) (s : Fin 5) : sProp 𝕄 := iprop(slotAny 0 s (peer s c) ∗ slotAny 1 s (peer s c))
def recvPay (st : Fin 2) (s : Fin 5) (c : Dev nD) : sProp 𝕄 := slotHas st s c (acc m st s.val (peer s c))
def sendPay (st : Fin 2) (s : Fin 5) (c : Dev nD) : sProp 𝕄 := half st c (acc m st s.val c)

omit [FloatOps F] in
instance slotAny_storable (st : Fin 2) (s : Fin 5) (c : Dev nD) : BI.Storable (upEmb : UEmb _ 𝕄) (slotAny (F := F) st s c) := by unfold slotAny; infer_instance
instance slotHas_storable (st : Fin 2) (s : Fin 5) (c : Dev nD) (X) : BI.Storable (upEmb : UEmb _ 𝕄) (slotHas (F := F) st s c X) := by unfold slotHas; infer_instance
instance half_storable (st : Fin 2) (c : Dev nD) (X) : BI.Storable (upEmb : UEmb _ 𝕄) (half (F := F) st c X) := by unfold half; infer_instance

/-! ## The schedule -/

def Rd : Rounds.Schedule (GSem nD τ sig) D 𝕄 where
  duties g r := if r = 0 ∧ g.1.2 = .tc then (match decode g.2 with
    | some none => Finset.univ
    | some (some _) => {0}
    | none => ∅) else ∅
  unitless _ := False
  amount g _ _ := if g.2 = .reg barS then 1 else N
  payload g _ d := match decode g.2 with
    | some none => barPay g.1.1 d
    | some (some (true, st, s)) => recvPay m st s g.1.1
    | some (some (false, st, s)) => sendPay m st s g.1.1
    | none => iprop(emp)
  amount_pos g _ _ _ := by
    by_cases h : g.2 = .reg barS
    · rw [if_pos h]; exact Nat.one_pos
    · rw [if_neg h]; exact N_pos

instance Rd_payload_storable (g : GSem nD τ sig) (r : ℕ) (d : D) :
    BI.Storable (upEmb : UEmb _ 𝕄) ((Rd (F := F) m).payload g r d) := by
  show BI.Storable upEmb (match decode g.2 with
    | some none => barPay g.1.1 d
    | some (some (true, st, s)) => recvPay m st s g.1.1
    | some (some (false, st, s)) => sendPay m st s g.1.1
    | none => iprop(emp))
  unfold barPay recvPay sendPay
  split <;> infer_instance

section Sched
variable (c : Dev nD) (st : Fin 2) (s : Fin 5)

theorem send_ne_bar : (SemLoc.dma (sendS st s) : SemLoc sig) ≠ .reg barS := fun h => by cases h
theorem recv_ne_bar : (SemLoc.dma (recvS st s) : SemLoc sig) ≠ .reg barS := fun h => by cases h

theorem duties_bar : (Rd m).duties (barCell c) 0 = Finset.univ := by
  dsimp only [Rd]; rw [if_pos ⟨rfl, rfl⟩, decode_bar]
theorem duties_send : (Rd m).duties (sendCell st s c) 0 = {0} := by
  dsimp only [Rd]; rw [if_pos ⟨rfl, rfl⟩, decode_send]
theorem duties_recv : (Rd m).duties (recvCell st s c) 0 = {0} := by
  dsimp only [Rd]; rw [if_pos ⟨rfl, rfl⟩, decode_recv]
theorem duties_later (g : GSem nD τ sig) : ∀ r, 1 ≤ r → (Rd m).duties g r = ∅ :=
  fun r hr => by dsimp only [Rd]; rw [if_neg fun h => by omega]

theorem amount_bar (d : D) : (Rd m).amount (barCell c) 0 d = 1 := by dsimp only [Rd]; exact if_pos rfl
theorem amount_send (d : D) : (Rd m).amount (sendCell st s c) 0 d = N := by dsimp only [Rd]; exact if_neg (send_ne_bar st s)
theorem amount_recv (d : D) : (Rd m).amount (recvCell st s c) 0 d = N := by dsimp only [Rd]; exact if_neg (recv_ne_bar st s)

theorem expect_bar : (Rd m).expect (barCell c) 0 = 5 := by
  unfold Schedule.expect Schedule.amountOf
  rw [duties_bar, Finset.sum_congr rfl fun d _ => amount_bar m c d, Finset.sum_const, Finset.card_univ, Fintype.card_fin, smul_eq_mul]
theorem expect_send : (Rd m).expect (sendCell st s c) 0 = N := by
  unfold Schedule.expect Schedule.amountOf; rw [duties_send, Finset.sum_singleton, amount_send]
theorem expect_recv : (Rd m).expect (recvCell st s c) 0 = N := by
  unfold Schedule.expect Schedule.amountOf; rw [duties_recv, Finset.sum_singleton, amount_recv]

theorem payload_bar (d : D) : (Rd m).payload (barCell c) 0 d = barPay c d := by dsimp only [Rd]; rw [decode_bar]
theorem payload_send (d : D) : (Rd m).payload (sendCell st s c) 0 d = sendPay m st s c := by dsimp only [Rd]; rw [decode_send]
theorem payload_recv (d : D) : (Rd m).payload (recvCell st s c) 0 d = recvPay m st s c := by dsimp only [Rd]; rw [decode_recv]

theorem rest_bar : bigSep ((Rd m).duties (barCell c) 0 \ ∅) (fun d => (Rd m).payload (barCell c) 0 d) = bigSep Finset.univ fun d => barPay c d := by
  rw [Finset.sdiff_empty, duties_bar]; exact bigSep_congr fun d _ => payload_bar m c d
theorem rest_send : bigSep ((Rd m).duties (sendCell st s c) 0 \ ∅) (fun d => (Rd m).payload (sendCell st s c) 0 d) = sendPay m st s c := by
  rw [Finset.sdiff_empty, duties_send, bigSep_singleton, payload_send]
theorem rest_recv : bigSep ((Rd m).duties (recvCell st s c) 0 \ ∅) (fun d => (Rd m).payload (recvCell st s c) 0 d) = recvPay m st s c := by
  rw [Finset.sdiff_empty, duties_recv, bigSep_singleton, payload_recv]

end Sched

/-! ## What is owed; the levels -/

/-- The transfers in the order a device starts them. -/
abbrev allSends : List (Fin 2 × Fin 5) := [(0, 0), (1, 0), (0, 1), (1, 1), (0, 2), (1, 2), (0, 3), (1, 3), (0, 4), (1, 4)]

/-- What device `c` owes with the transfers `l` still to start. -/
def owedL (c : Dev nD) : List (Fin 2 × Fin 5) → CellTallies nD τ sig Unit
  | [] => 0
  | q :: l => owedL c l + tallyAt (recvCell q.1 q.2 (peer q.2 c)) () N
/-- What it owes with the barrier signals `l` and all transfers still to make. -/
def owedB (c : Dev nD) : List (Fin 5) → CellTallies nD τ sig Unit
  | [] => owedL c allSends
  | s :: l => owedB c l + tallyAt (barCell (peer s c)) () 1
/-- At launch. -/
def O₀ (c : Dev nD) : CellTallies nD τ sig Unit := owedB c [0, 1, 2, 3, 4]

def L (g : GSem nD τ sig) : Finset Unit := if g.1.2 = .tc then {()} else ∅
def lv (g : GSem nD τ sig) (_ : Unit) : ℕ := match decode g.2 with
  | some none => 1
  | some (some (true, _, s)) => 2 + s.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [decode_bar]
theorem lv_send (st : Fin 2) (s : Fin 5) (c : Dev nD) (u : Unit) : lv (sendCell st s c) u = 0 := by unfold lv; rw [decode_send]
theorem lv_recv (st : Fin 2) (s : Fin 5) (c : Dev nD) (u : Unit) : lv (recvCell st s c) u = 2 + s.val := by unfold lv; rw [decode_recv]

theorem owedL_pos (c : Dev nD) (g : GSem nD τ sig) (u : Unit) :
    ∀ l : List (Fin 2 × Fin 5), 0 < owedL c l g u → ∃ q ∈ l, g = recvCell q.1 q.2 (peer q.2 c)
  | [], h => absurd h (Nat.lt_irrefl 0)
  | q :: l, h => by
    unfold owedL at h
    rw [Pi.add_apply, Finsupp.add_apply, tallyAt_apply] at h
    by_cases hq : g = recvCell q.1 q.2 (peer q.2 c) ∧ u = ()
    · exact ⟨q, List.mem_cons_self, hq.1⟩
    · rw [if_neg hq, Nat.add_zero] at h
      obtain ⟨q', h', e⟩ := owedL_pos c g u l h
      exact ⟨q', List.mem_cons_of_mem _ h', e⟩

theorem owedB_pos (c : Dev nD) (g : GSem nD τ sig) (u : Unit) :
    ∀ l : List (Fin 5), 0 < owedB c l g u → (∃ s, g = barCell (peer s c)) ∨ ∃ q ∈ allSends, g = recvCell q.1 q.2 (peer q.2 c)
  | [], h => .inr (owedL_pos c g u _ h)
  | s :: l, h => by
    unfold owedB at h
    rw [Pi.add_apply, Finsupp.add_apply, tallyAt_apply] at h
    by_cases hq : g = barCell (peer s c) ∧ u = ()
    · exact .inl ⟨s, hq.1⟩
    · rw [if_neg hq, Nat.add_zero] at h
      exact owedB_pos c g u l h

/-- With the transfers `l` to start, all of a step above the level of `sm`, a device may wait on `sm`. -/
theorem mayWait_L (c : Dev nD) (sm : SemLoc sig) (n : ℕ) (l : List (Fin 2 × Fin 5)) (hs : lv ((c : Thread nD τ), sm) () ≤ n)
    (hl : ∀ q ∈ l, n < 2 + q.2.val) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨q, -, rfl⟩ := owedL_pos c g u l hg; rw [L_tc]; exact Finset.mem_singleton_self _)
    (fun p hp => by rw [Finset.mem_singleton.mp hp]; exact hs)
    (fun g u hg => by obtain ⟨q, hq, rfl⟩ := owedL_pos c g u l hg; rw [lv_recv]; exact hl q hq)

/-- Before anything is signalled a device may wait on a semaphore of level 0. -/
theorem mayWait_O₀ (c : Dev nD) (sm : SemLoc sig) (hs : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by
      rcases owedB_pos c g u _ hg with ⟨s, rfl⟩ | ⟨q, -, rfl⟩ <;> (rw [L_tc]; exact Finset.mem_singleton_self _))
    (fun p hp => by rw [Finset.mem_singleton.mp hp]; exact hs.le)
    (fun g u hg => by
      rcases owedB_pos c g u _ hg with ⟨s, rfl⟩ | ⟨q, -, rfl⟩
      · rw [lv_bar]; exact Nat.one_pos
      · rw [lv_recv]; omega)

end Cert.KernelRun

end
-- ==== Proof.Steps.lean ====
/-
# The steps of the body

One lemma per kind of memory or semaphore operation the kernel makes, at a symbolic device, batch and step: a barrier
signal, the barrier wait, a transfer started, the wait for its source, the wait for the partner's block, and the loads and
stores of the accumulator, the landing slots and the staged blocks.
-/
module

public import proofs.«01_k».proof.Proof.Protocol

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

abbrev 𝒱₀ : Variants := Variants.none

/-- The program run by the core of device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, and that its first round has begun. -/
def records : sProp 𝕄 :=
  iprop((bigSep Finset.univ fun ck : Dev nD × KI => cellInv ER (Rd m) (K ck) (kcell ck))
    ∗ bigSep Finset.univ fun ck : Dev nD × KI => reached ER (kcell ck) 0)

instance records_persistent : BI.Persistent (records m K) := by unfold records; infer_instance

theorem inv_elim (ck : Dev nD × KI) :
    (bigSep Finset.univ fun ck : Dev nD × KI => (cellInv ER (Rd m) (K ck) (kcell ck) : sProp 𝕄)) ⊢ cellInv ER (Rd m) (K ck) (kcell ck) :=
  bigSep_elim (Finset.mem_univ ck)
theorem reached_elim (ck : Dev nD × KI) :
    (bigSep Finset.univ fun ck : Dev nD × KI => (reached ER (kcell ck) 0 : sProp 𝕄)) ⊢ reached ER (kcell ck) 0 :=
  bigSep_elim (Finset.mem_univ ck)
theorem inv_at (ck : Dev nD × KI) : records m K ⊢ cellInv ER (Rd m) (K ck) (kcell ck) := by
  unfold records
  iintro ⟨#HI, -⟩
  iapply (inv_elim m K ck); iexact HI
theorem reached_at (ck : Dev nD × KI) : records m K ⊢ reached ER (kcell ck) 0 := by
  unfold records
  iintro ⟨-, #HR⟩
  iapply (reached_elim (F := F) ck); iexact HR

theorem inv_bar (c : Dev nD) : records m K ⊢ cellInv ER (Rd m) (K (c, none)) (barCell c) := inv_at m K (c, none)
theorem inv_send (st : Fin 2) (s : Fin 5) (c : Dev nD) : records m K ⊢ cellInv ER (Rd m) (K (c, some (false, st, s))) (sendCell st s c) :=
  inv_at m K (c, some (false, st, s))
theorem inv_recv (st : Fin 2) (s : Fin 5) (c : Dev nD) : records m K ⊢ cellInv ER (Rd m) (K (c, some (true, st, s))) (recvCell st s c) :=
  inv_at m K (c, some (true, st, s))
theorem reached_bar (c : Dev nD) : records m K ⊢ reached ER (barCell c) 0 := reached_at m K (c, none)
theorem reached_send (st : Fin 2) (s : Fin 5) (c : Dev nD) : records m K ⊢ reached ER (sendCell st s c) 0 := reached_at m K (c, some (false, st, s))
theorem reached_recv (st : Fin 2) (s : Fin 5) (c : Dev nD) : records m K ⊢ reached ER (recvCell st s c) 0 := reached_at m K (c, some (true, st, s))

/-- Device `c` owes `O`, whatever it has waited on. -/
def owesX (c : Dev nD) (O : CellTallies nD τ sig Unit) : sProp 𝕄 := iprop(∃ W : Waits sig Unit, owes (c : Thread nD τ) O W)

/-! ## The barrier -/

/-- A barrier signal to the partner of step `s`: `c`'s two landing slots of step `s` go with it. -/
theorem step_signal {α : Type} (c n : Dev nD) (s : Fin 5) (hn : n = peer s c) (l : List (Fin 5)) {k : PUnit → Prog (TpuEff nD τ sig (Elt F) Λ₀ .tc) α} {Q : α → sProp 𝕄} :
    records m K ⊢ iprop(owesX c (owedB c (s :: l)) -∗ dutyTok ER (barCell (peer s c)) 0 s -∗ slotAny 0 s c -∗ slotAny 1 s c
      -∗ (owesX c (owedB c l) -∗ run c (k ⟨⟩) Q) -∗ run c (.op (.semSignal (Dev.tc n : Thread nD τ) barS (1#32).toNat) k) Q) := by
  subst hn
  unfold owesX
  iintro #HR ⟨%W, HO⟩ Ht H0 H1 Hk
  iapply (Rounds.wp_signal 𝒱₀ ER (Rd m) (c : Thread nD τ) none (dst := (peer s c : Thread nD τ)) (κ := K (peer s c, none))
      (d := s) (by rw [duties_bar]; exact Finset.mem_univ _) ((amount_bar m (peer s c) s).trans (by decide)) () (owedB c l) rfl)
    $$ [HO Ht H0 H1]
  · isplitr; · iapply (inv_bar m K (peer s c)); iexact HR
    isplitl [HO]; · iexact HO
    isplitl [Ht]; · iexact Ht
    isplitl [H0 H1]
    · rw [payload_bar]; unfold barPay; rw [peer_peer]
      isplitl [H0] <;> iassumption
    · iapply (reached_bar m K (peer s c)); iexact HR
  iintro HO
  iapply Hk
  iexists W; iexact HO

/-- The barrier wait: the partners' landing slots come with it. -/
theorem step_barrier {α : Type} (c : Dev nD) {k : PUnit → Prog (TpuEff nD τ sig (Elt F) Λ₀ .tc) α} {Q : α → sProp 𝕄} :
    records m K ⊢ iprop(levAts L lv -∗ cred (tallyAt (barCell c) () 5) -∗ owesX c (owedB c []) -∗ atPos ER (barCell c) 0 ∅ 0
      -∗ ((owesX c (owedL c allSends) ∗ semVal (barCell c) 0 ∗ bigSep Finset.univ fun s => barPay c s) -∗ run c (k ⟨⟩) Q)
      -∗ run c (.op (.semWait barS (5#32).toNat) k) Q) := by
  unfold owesX
  iintro #HR #HL Hc ⟨%W, HO⟩ Hat Hk
  iapply (Rounds.wp_wait_rest_token 𝒱₀ ER (Rd m) (c : Thread nD τ) none (κ := K (c, none))
      (wpE_semWait_eq 𝒱₀ (c : Thread nD τ) none Set.univ) (Set.mem_univ _) () (O := owedL c allSends) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_L c (.reg barS) 1 allSends (by rw [lv_bar]) (fun q _ => by omega)); iexact HL
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_bar m K c); iexact HR
    iexact Hat
  iapply Hk
  isplitl [HO]; · iexists _; iexact HO
  isplitl [Hz] <;> iassumption

/-! ## A transfer -/

theorem landed (st : Fin 2) (s : Fin 5) (fd : (cc0_scratch1 : Ref sig .tc).ty.Contents (Elt F)) (X : S128x640.Idx → Elt F .bf16) :
    (slotV st s).view.read (Elt F) ((slotV st s).view.write (Elt F) fd X Finset.univ) = X := View.read_write_univ _ _

/-- What a device holds of a transfer before it starts it, -/
def ready (st : Fin 2) (s : Fin 5) (c : Dev nD) : sProp 𝕄 :=
  iprop(slotAny st s (peer s c) ∗ dutyTok ER (sendCell st s c) 0 0 ∗ dutyTok ER (recvCell st s (peer s c)) 0 0)
/-- with both transfers of a pair under way, -/
def waiting (st : Fin 2) (s : Fin 5) (c : Dev nD) : sProp 𝕄 :=
  iprop(atPos ER (sendCell st s c) 0 ∅ 0 ∗ atPos ER (recvCell st s c) 0 ∅ 0 ∗ cred (tallyAt (recvCell st s c) () N))
def flying (st : Fin 2) (s : Fin 5) (c : Dev nD) : sProp 𝕄 := cred (tallyAt (sendCell st s c) () N)

theorem step_send {α : Type} (st : Fin 2) (s : Fin 5) (c n : Dev nD) (hn : n = peer s c) (j : ℕ) (hj : s.val = j) (l' l : List (Fin 2 × Fin 5)) (hl : l' = (st, s) :: l)
    {hsc : (slotV st s : Memref sig (Dev.tc n : Thread nD τ).2.kind .vmem S128x640 .bf16).view.ref.isScScratch = false}
    {hsrc : (accV st).view.WordExact} {hdst : (slotV st s).view.WordExact}
    {hsem : DmaTarget.Typed .vmem (.dma (recvS st s)) (.remote (Dev.tc n : Thread nD τ) (slotV st s) (.dma (sendS st s)) hsc)}
    {k : PUnit → Prog (TpuEff nD τ sig (Elt F) Λ₀ .tc) α} {Q : α → sProp 𝕄} :
    records m K ⊢ iprop(ready st s c -∗ half st c (acc m st j c) -∗ owesX c (owedL c l')
      -∗ ((flying st s c ∗ owesX c (owedL c l)) -∗ run c (k ⟨⟩) Q)
      -∗ run c (.op (.enqueueDma (accV st) (.remote (Dev.tc n : Thread nD τ) (slotV st s) (.dma (sendS st s)) hsc) (.dma (recvS st s)) hsrc hdst hsem) k) Q) := by
  subst hn hj hl
  unfold owesX ready half slotAny owns flying
  iintro #HR ⟨⟨%fd, Hd⟩, Hts, Htr⟩ ⟨%fs, %hfs, Hs⟩ ⟨%W, HO⟩ Hk
  iapply (Rounds.wp_send_pointsTo 𝒱₀ ER (Rd m) (c : Thread nD τ) none (κ₁ := K (c, some (false, st, s))) (κ₂ := K (peer s c, some (true, st, s)))
    (r₁ := 0) (r₂ := 0) (d₁ := 0) (d₂ := 0) (fd := fd) (fs := fs)
    (by rw [duties_send]; exact Finset.mem_singleton_self _) (by rw [duties_recv]; exact Finset.mem_singleton_self _)
    () () N rfl (amount_send m c st s 0) (amount_recv m (peer s c) st s 0) (owedL c l) rfl (W := W)
    (by
      rw [payload_send]; unfold sendPay half owns
      iintro H; iexists fs; isplitr; · (ipureintro; exact hfs)
      iexact H)
    (by
      rw [payload_recv]; unfold recvPay slotHas owns; rw [peer_peer]
      iintro H; iexists _; isplitr; · (ipureintro; exact (landed st s fd _).trans hfs)
      iexact H)) $$ [Hd Hts Htr Hs HO]
  · isplitr; · iapply (inv_send m K st s c); iexact HR
    isplitr; · iapply (inv_recv m K st s (peer s c)); iexact HR
    isplitl [Hs]; · iexact Hs
    isplitl [Hd]; · iexact Hd
    isplitl [HO]; · iexact HO
    isplitl [Hts]; · iexact Hts
    isplitr; · iapply (reached_send m K st s c); iexact HR
    isplitl [Htr]; · iexact Htr
    iapply (reached_recv m K st s (peer s c)); iexact HR
  iintro ⟨Hc, HO⟩
  iapply Hk
  isplitl [Hc]; · iexact Hc
  iexists W; iexact HO

/-- The wait for a transfer's source: the accumulator's rows are back. -/
theorem step_waitSend {α : Type} (st : Fin 2) (s : Fin 5) (c : Dev nD) (j : ℕ) (hj : s.val = j) (l : List (Fin 2 × Fin 5)) (hl : ∀ q ∈ l, 1 < 2 + q.2.val)
    {h₁ : (slotV st s).view.WordExact} {h₂ : (accV st).view.WordExact}
    {k : PUnit → Prog (TpuEff nD τ sig (Elt F) Λ₀ .tc) α} {Q : α → sProp 𝕄} :
    records m K ⊢ iprop(levAts L lv -∗ flying st s c -∗ owesX c (owedL c l) -∗ atPos ER (sendCell st s c) 0 ∅ 0
      -∗ ((owesX c (owedL c l) ∗ half st c (acc m st j c) ∗ semVal (sendCell st s c) 0) -∗ run c (k ⟨⟩) Q)
      -∗ run c (.op (.waitDma2 (sendS st s) (slotV st s) (accV st) h₁ h₂) k) Q) := by
  subst hj
  unfold owesX flying
  iintro #HR #HL Hc ⟨%W, HO⟩ Hat Hk
  iapply (Rounds.wp_wait_rest_token 𝒱₀ ER (Rd m) (c : Thread nD τ) none (κ := K (c, some (false, st, s)))
      (wpE_waitDma2_eq 𝒱₀ (c : Thread nD τ) none Set.univ) (Set.mem_univ _) () (O := owedL c l) (W := W) (R := 0) (m := 0) (T := ∅)
      (by rw [Nat.zero_add, expect_send])) $$ [Hc HO Hat]
  · isplitr; · iapply (inv_send m K st s c); iexact HR
    isplitl [Hc]; · iexact Hc
    isplitl [HO]; · iexact HO
    isplitr; · iapply (mayWait_L c (.dma (sendS st s)) 1 l (by rw [lv_send]; omega) hl); iexact HL
    iexact Hat
  iintro ⟨HO, Hat, -, Hpay⟩
  ihave Hp := (Entails.of_eq (rest_send m c st s)) $$ Hpay
  unfold sendPay
  imod (Rounds.cell_close ER (Rd m) (Set.mem_univ (K (c, some (false, st, s)))) (fun h => h) (R := 0 + 1) (duties_later m (sendCell st s c))) $$ [Hat] with Hz
  · isplitr; · iapply (inv_send m K st s c); iexact HR
    iexact Hat
  iapply Hk
  isplitl [HO]; · iexists _; iexact HO
  isplitl [Hp] <;> iassumption

/-- The wait for the partner's block. -/
theorem step_waitRecv {α : Type} (st : Fin 2) (s : Fin 5) (c : Dev nD) (j : ℕ) (hj : s.val = j) (l : List (Fin 2 × Fin 5)) (hl : ∀ q ∈ l, 2 + s.val < 2 + q.2.val)
    {h₁ : (accV st).view.WordExact} {h₂ : (slotV st s).view.WordExact}
    {k : PUnit → Prog (TpuEff nD τ sig (Elt F) Λ₀ .tc) α} {Q : α → sProp 𝕄} :
    records m K ⊢ iprop(levAts L lv -∗ cred (tallyAt (recvCell st s c) () N) -∗ owesX c (owedL c l) -∗ atPos ER (recvCell st s c) 0 ∅ 0
      -∗ ((owesX c (owedL c l) ∗ slotHas st s c (acc m st j (peer s c)) ∗ semVal (recvCell st s c) 0) -∗ run c (k ⟨⟩) Q)
      -∗ run c (.op (.waitDma2 (recvS st s) (accV st) (slotV st s) h₁ h₂) k) Q) := by
  subst hj
  unfold owesX
  iintro #HR #HL Hc ⟨%W, HO⟩ Hat Hk
  iapply (Rounds.wp_wait_rest_token 𝒱₀ ER (Rd m) (c : Thread nD τ) none (κ := K (c, some (true, st, s)))
      (wpE_waitDma2_eq 𝒱₀ (c : Thread nD τ) none Set.univ) (Set.mem_univ _) () (O := owedL c l) (W := W) (R := 0) (m := 0) (T := ∅)
      (by rw [Nat.zero_add, expect_recv])) $$ [Hc HO Hat]
  · isplitr; · iapply (inv_recv m K st s c); iexact HR
    isplitl [Hc]; · iexact Hc
    isplitl [HO]; · iexact HO
    isplitr; · iapply (mayWait_L c (.dma (recvS st s)) (2 + s.val) l (by rw [lv_recv]) hl); iexact HL
    iexact Hat
  iintro ⟨HO, Hat, -, Hpay⟩
  ihave Hp := (Entails.of_eq (rest_recv m c st s)) $$ Hpay
  unfold recvPay
  imod (Rounds.cell_close ER (Rd m) (Set.mem_univ (K (c, some (true, st, s)))) (fun h => h) (R := 0 + 1) (duties_later m (recvCell st s c))) $$ [Hat] with Hz
  · isplitr; · iapply (inv_recv m K st s c); iexact HR
    iexact Hat
  iapply Hk
  isplitl [HO]; · iexists _; iexact HO
  isplitl [Hp] <;> iassumption

/-! ## Loads and stores -/

theorem slot_set (st : Fin 2) (s : Fin 5) : rM.view.setOn (rectSlot st s).set = (slotV st s).view.set := by
  exact ((View.set_reshape _ _).trans (View.set_slice _ _)).symm
theorem acc_set (st : Fin 2) : aM.view.setOn (rectH st).set = (accV st).view.set := (View.set_slice _ _).symm

/-- A load of a batch's rows. -/
theorem load_half {α : Type} (st : Fin 2) (c : Dev nD) (X : S128x640.Idx → Elt F .bf16) {hl : aM.view.LoadsAt (rectH st).toLoadRect}
    {k : ((rectH st).toLoadRect.shape.Idx → Elt F .bf16) → Prog (TpuEff nD τ sig (Elt F) Λ₀ .tc) α} {Q : α → sProp 𝕄} :
    half st c X ⊢ iprop((half st c X -∗ run c (k X) Q) -∗ run c (.op (.load aM (rectH st).toLoadRect hl) k) Q) := by
  unfold half owns
  iintro ⟨%f, %hf, H⟩ Hk
  iapply (wp_load 𝒱₀ (c : Thread nD τ) none Set.univ (m := aM) (r := (rectH st).toLoadRect) (S := (accV st).view.set) (acc_set st).le) $$ H; iintro H
  rw [read_half, hf]
  iapply Hk
  iexists f; isplitr; · (ipureintro; exact hf)
  iexact H

/-- A load of a landing slot. -/
theorem load_slot {α : Type} (st : Fin 2) (s : Fin 5) (c : Dev nD) (X : S128x640.Idx → Elt F .bf16) {hl : rM.view.LoadsAt (rectSlot st s).toLoadRect}
    {k : ((rectSlot st s).toLoadRect.shape.Idx → Elt F .bf16) → Prog (TpuEff nD τ sig (Elt F) Λ₀ .tc) α} {Q : α → sProp 𝕄} :
    slotHas st s c X ⊢ iprop((slotHas st s c X -∗ run c (k (up X)) Q) -∗ run c (.op (.load rM (rectSlot st s).toLoadRect hl) k) Q) := by
  unfold slotHas owns
  iintro ⟨%f, %hf, H⟩ Hk
  iapply (wp_load 𝒱₀ (c : Thread nD τ) none Set.univ (m := rM) (r := (rectSlot st s).toLoadRect) (S := (slotV st s).view.set) (slot_set st s).le) $$ H; iintro H
  rw [read_slot, hf]
  iapply Hk
  iexists f; isplitr; · (ipureintro; exact hf)
  iexact H

/-- A store over a batch's rows. -/
theorem store_half {α : Type} (st : Fin 2) (c : Dev nD) (X Y : S128x640.Idx → Elt F .bf16) {hx : (aM.access (rectH st)).Stores Finset.univ}
    {hm : (Finset.univ : Finset (rectH st).shape.Idx) = Finset.univ ∨ ∀ a, (rectH st).stride a = 1}
    {k : PUnit → Prog (TpuEff nD τ sig (Elt F) Λ₀ .tc) α} {Q : α → sProp 𝕄} :
    half st c X ⊢ iprop((half st c Y -∗ run c (k ⟨⟩) Q) -∗ run c (.op (.store aM (rectH st) Y Finset.univ hx hm) k) Q) := by
  unfold half owns
  iintro ⟨%f, %hf, H⟩ Hk
  iapply (wp_store 𝒱₀ (c : Thread nD τ) none Set.univ (m := aM) (r := rectH st) (Mk := Finset.univ) (S := (accV st).view.set) (f := f) (Finset.Subset.refl _)) $$ H; iintro H
  iapply Hk
  iexists _; isplitr
  · ipureintro; exact View.read_write_univ (v := (accV st).view) f Y
  iexact H

/-! ## Filling a batch's rows -/

/-- The rows of batch `st` after the stores `l`, over some contents. -/
def filling (st : Fin 2) (c : Dev nD) (l : List (P F)) : sProp 𝕄 :=
  iprop(∃ f : (cc0_scratch0 : Ref sig .tc).ty.Contents (Elt F),
    (accV st).view.loc (c : Thread nD τ) ↦[(accV st).view.set]{fullShare} (aM.view.writes (Elt F) f l))

theorem inside (st : Fin 2) {off size : Fin S256x640.rank → ℕ} (inb : ∀ a, off a + size a ≤ S256x640.size a)
    (h0 : 128 * st.val ≤ off 0) (h1 : off 0 + size 0 ≤ 128 * st.val + 128) :
    aM.view.setOn (Rect.unit off size inb).set ⊆ (accV st).view.set := by
  rw [← acc_set]
  refine Finset.map_subset_map.mpr fun z hz => ?_
  rw [Rect.mem_set_unit] at hz
  have z0 := hz 0
  have z1 : (z 1).val < 640 := (z 1).isLt
  exact mem_unit2 _ (by show 128 * st.val ≤ (z 0).val ∧ (z 0).val < 128 * st.val + 128; omega) (by show 0 ≤ (z 1).val ∧ (z 1).val < 0 + 640; omega)

/-- A load whose value is not used. -/
theorem load_fill {α : Type} (st : Fin 2) (c : Dev nD) (l : List (P F)) {off size : Fin S256x640.rank → ℕ} {inb : ∀ a, off a + size a ≤ S256x640.size a}
    (h0 : 128 * st.val ≤ off 0) (h1 : off 0 + size 0 ≤ 128 * st.val + 128)
    {hl : aM.view.LoadsAt (Rect.unit (s := S256x640) off size inb).toLoadRect} {p : Prog (TpuEff nD τ sig (Elt F) Λ₀ .tc) α} {Q : α → sProp 𝕄} :
    filling st c l ⊢ iprop((filling st c l -∗ run c p Q) -∗ run c (.op (.load aM (Rect.unit (s := S256x640) off size inb).toLoadRect hl) (fun _ => p)) Q) := by
  unfold filling
  iintro ⟨%f, H⟩ Hk
  iapply (wp_load 𝒱₀ (c : Thread nD τ) none Set.univ (m := aM) (r := (Rect.unit (s := S256x640) off size inb).toLoadRect) (S := (accV st).view.set) (inside st inb h0 h1)) $$ H; iintro H
  iapply Hk
  iexists f; iexact H

theorem store_fill {α : Type} (st : Fin 2) (c : Dev nD) (l : List (P F)) {off size : Fin S256x640.rank → ℕ} {inb : ∀ a, off a + size a ≤ S256x640.size a}
    (h0 : 128 * st.val ≤ off 0) (h1 : off 0 + size 0 ≤ 128 * st.val + 128) {w : (Rect.unit (s := S256x640) off size inb).shape.Idx → Elt F .bf16}
    {hx : (aM.access (Rect.unit (s := S256x640) off size inb)).Stores Finset.univ}
    {hm : (Finset.univ : Finset (Rect.unit (s := S256x640) off size inb).shape.Idx) = Finset.univ ∨ ∀ a, (Rect.unit (s := S256x640) off size inb).stride a = 1}
    {k : PUnit → Prog (TpuEff nD τ sig (Elt F) Λ₀ .tc) α} {Q : α → sProp 𝕄} :
    filling st c l ⊢ iprop((filling st c (⟨Rect.unit (s := S256x640) off size inb, w⟩ :: l) -∗ run c (k ⟨⟩) Q)
      -∗ run c (.op (.store aM (Rect.unit (s := S256x640) off size inb) w Finset.univ hx hm) k) Q) := by
  unfold filling
  iintro ⟨%f, H⟩ Hk
  iapply (wp_store 𝒱₀ (c : Thread nD τ) none Set.univ (m := aM) (r := Rect.unit (s := S256x640) off size inb) (Mk := Finset.univ) (S := (accV st).view.set)
    (f := aM.view.writes (Elt F) f l) ((View.set_slice aM.view (Rect.unit (s := S256x640) off size inb)).le.trans (inside st inb h0 h1))) $$ H; iintro H
  iapply Hk
  iexists f; iexact H

/-- With its nine stores made a batch's rows hold the device's own contribution. -/
theorem filled (st : Fin 2) (c : Dev nD) : filling st c (pieces (xst m c) (wqst m c) (kst m c) (vst m c) st) ⊢ half st c (acc m st 0 c) := by
  unfold filling half owns
  iintro ⟨%f, H⟩
  iexists _; isplitr
  · ipureintro; exact read_filled (xst m c) (wqst m c) (kst m c) (vst m c) st f
  iexact H

/-! ## The staged blocks -/

/-- The staging buffer `b` of device `c` holding `X`. -/
abbrev stg (c : Dev nD) (b : Ref sig .tc) (X : b.ty.Contents (Elt F)) : sProp 𝕄 := ((c : Thread nD τ).loc b) ↦{fullShare} X

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

theorem load_x {α : Type} (c : Dev nD) (X : (cc0_stg0_0 : Ref sig .tc).ty.Contents (Elt F))
    {hl : xM.view.LoadsAt (Rect.unit (s := S2x128x512) ![0, 0, 0] S2x128x512.size inb_S2x128x512_S2x128x512_0_0_0).toLoadRect}
    {k : Vec F S2x128x512 .bf16 → Prog (TpuEff nD τ sig (Elt F) Λ₀ .tc) α} {Q : α → sProp 𝕄} :
    stg c cc0_stg0_0 X ⊢ iprop((stg c cc0_stg0_0 X -∗ run c (k X) Q)
      -∗ run c (.op (.load xM (Rect.unit (s := S2x128x512) ![0, 0, 0] S2x128x512.size inb_S2x128x512_S2x128x512_0_0_0).toLoadRect hl) k) Q) := by
  iintro H Hk
  iapply (wp_load 𝒱₀ (c : Thread nD τ) none Set.univ (m := xM) (Finset.subset_univ _)) $$ H; iintro H
  rw [show xM.view.readAt (Elt F) (Rect.unit (s := S2x128x512) ![0, 0, 0] S2x128x512.size inb_S2x128x512_S2x128x512_0_0_0).toLoadRect X = X from
    Memref.readAt_unit_zero (Elt F) cc0_stg0_0 hz3 _ X]
  iapply Hk; iexact H

theorem load_wq {α : Type} (c : Dev nD) (X : (cc0_stg1_0 : Ref sig .tc).ty.Contents (Elt F))
    {hl : wqM.view.LoadsAt (Rect.unit (s := S512x512) ![0, 0] S512x512.size inb_S512x512_S512x512_0_0).toLoadRect}
    {k : Vec F S512x512 .bf16 → Prog (TpuEff nD τ sig (Elt F) Λ₀ .tc) α} {Q : α → sProp 𝕄} :
    stg c cc0_stg1_0 X ⊢ iprop((stg c cc0_stg1_0 X -∗ run c (k X) Q)
      -∗ run c (.op (.load wqM (Rect.unit (s := S512x512) ![0, 0] S512x512.size inb_S512x512_S512x512_0_0).toLoadRect hl) k) Q) := by
  iintro H Hk
  iapply (wp_load 𝒱₀ (c : Thread nD τ) none Set.univ (m := wqM) (Finset.subset_univ _)) $$ H; iintro H
  rw [show wqM.view.readAt (Elt F) (Rect.unit (s := S512x512) ![0, 0] S512x512.size inb_S512x512_S512x512_0_0).toLoadRect X = X from
    Memref.readAt_unit_zero (Elt F) cc0_stg1_0 hz2 _ X]
  iapply Hk; iexact H

theorem load_wo {α : Type} (c : Dev nD) (X : (cc0_stg2_0 : Ref sig .tc).ty.Contents (Elt F))
    {hl : woM.view.LoadsAt (Rect.unit (s := S512x512) ![0, 0] S512x512.size inb_S512x512_S512x512_0_0).toLoadRect}
    {k : Vec F S512x512 .bf16 → Prog (TpuEff nD τ sig (Elt F) Λ₀ .tc) α} {Q : α → sProp 𝕄} :
    stg c cc0_stg2_0 X ⊢ iprop((stg c cc0_stg2_0 X -∗ run c (k X) Q)
      -∗ run c (.op (.load woM (Rect.unit (s := S512x512) ![0, 0] S512x512.size inb_S512x512_S512x512_0_0).toLoadRect hl) k) Q) := by
  iintro H Hk
  iapply (wp_load 𝒱₀ (c : Thread nD τ) none Set.univ (m := woM) (Finset.subset_univ _)) $$ H; iintro H
  rw [show woM.view.readAt (Elt F) (Rect.unit (s := S512x512) ![0, 0] S512x512.size inb_S512x512_S512x512_0_0).toLoadRect X = X from
    Memref.readAt_unit_zero (Elt F) cc0_stg2_0 hz2 _ X]
  iapply Hk; iexact H

theorem load_k {α : Type} (c : Dev nD) (X : (cc0_stg3_0 : Ref sig .tc).ty.Contents (Elt F)) {r : Rect S2x128x8x64}
    {hl : kM.view.LoadsAt r.toLoadRect} {k : (r.shape.Idx → Elt F .bf16) → Prog (TpuEff nD τ sig (Elt F) Λ₀ .tc) α} {Q : α → sProp 𝕄} :
    stg c cc0_stg3_0 X ⊢ iprop((stg c cc0_stg3_0 X -∗ run c (k (kM.view.readAt (Elt F) r.toLoadRect X)) Q) -∗ run c (.op (.load kM r.toLoadRect hl) k) Q) := by
  iintro H Hk
  iapply (wp_load 𝒱₀ (c : Thread nD τ) none Set.univ (m := kM) (Finset.subset_univ _)) $$ H; iintro H
  iapply Hk; iexact H

theorem load_v {α : Type} (c : Dev nD) (X : (cc0_stg4_0 : Ref sig .tc).ty.Contents (Elt F)) {r : Rect S2x128x8x64}
    {hl : vM.view.LoadsAt r.toLoadRect} {k : (r.shape.Idx → Elt F .bf16) → Prog (TpuEff nD τ sig (Elt F) Λ₀ .tc) α} {Q : α → sProp 𝕄} :
    stg c cc0_stg4_0 X ⊢ iprop((stg c cc0_stg4_0 X -∗ run c (k (vM.view.readAt (Elt F) r.toLoadRect X)) Q) -∗ run c (.op (.load vM r.toLoadRect hl) k) Q) := by
  iintro H Hk
  iapply (wp_load 𝒱₀ (c : Thread nD τ) none Set.univ (m := vM) (Finset.subset_univ _)) $$ H; iintro H
  iapply Hk; iexact H

end Cert.KernelRun

end
-- ==== Proof.Fill.lean ====
/-
# The body up to the first exchange

The barrier, then a device's own contribution to both batches: nine stores each, and the first transfer of each batch.
-/
module

public import proofs.«01_k».proof.Proof.Steps

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

/-- The device's number as the kernel computes it. -/
abbrev word (c : Dev nD) : BitVec 32 := Scalar.remsi (Scalar.divsi (Dev.word c) 1#32) 32#32

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 0 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 1 c := by revert c; decide
theorem dev10_eq (c : Dev nD) : (⟨k0_dev10 c, k0_dev10_lt c⟩ : Dev nD) = peer 2 c := by revert c; decide
theorem dev11_eq (c : Dev nD) : (⟨k0_dev11 c, k0_dev11_lt c⟩ : Dev nD) = peer 2 c := by revert c; decide
theorem dev12_eq (c : Dev nD) : (⟨k0_dev12 c, k0_dev12_lt c⟩ : Dev nD) = peer 3 c := by revert c; decide
theorem dev13_eq (c : Dev nD) : (⟨k0_dev13 c, k0_dev13_lt c⟩ : Dev nD) = peer 3 c := by revert c; decide
theorem dev14_eq (c : Dev nD) : (⟨k0_dev14 c, k0_dev14_lt c⟩ : Dev nD) = peer 4 c := by revert c; decide
theorem dev15_eq (c : Dev nD) : (⟨k0_dev15 c, k0_dev15_lt c⟩ : Dev nD) = peer 4 c := by revert c; decide

/-- What a device takes out of the launch for the barrier. -/
def barIn (c : Dev nD) : sProp 𝕄 :=
  iprop((dutyTok ER (barCell (peer 0 c)) 0 0 ∗ slotAny 0 0 c ∗ slotAny 1 0 c) ∗ (dutyTok ER (barCell (peer 1 c)) 0 1 ∗ slotAny 0 1 c ∗ slotAny 1 1 c)
    ∗ (dutyTok ER (barCell (peer 2 c)) 0 2 ∗ slotAny 0 2 c ∗ slotAny 1 2 c) ∗ (dutyTok ER (barCell (peer 3 c)) 0 3 ∗ slotAny 0 3 c ∗ slotAny 1 3 c)
    ∗ (dutyTok ER (barCell (peer 4 c)) 0 4 ∗ slotAny 0 4 c ∗ slotAny 1 4 c)
    ∗ cred (tallyAt (barCell c) () 5) ∗ atPos ER (barCell c) 0 ∅ 0)

/-- The staged blocks of a device. -/
def staged (c : Dev nD) : sProp 𝕄 :=
  iprop(stg c cc0_stg0_0 (xst m c) ∗ stg c cc0_stg1_0 (wqst m c) ∗ stg c cc0_stg2_0 (wost m c) ∗ stg c cc0_stg3_0 (kst m c) ∗ stg c cc0_stg4_0 (vst m c))

theorem part1 {α : Type} (c : Dev nD) {Q : α → sProp 𝕄}
    {k : (Σ' (d0 : Dev nD) (v2 : BitVec 32) (v21 : FVec F S256x512 .bf16), FVec F S512x512 .bf16) → Prog (TpuEff nD τ sig (Elt F) Λ₀ .tc) α} :
    records m K ⊢ iprop(levAts L lv -∗ owesX c (O₀ c) -∗ barIn c -∗ staged m c
      -∗ ((owesX c (owedL c allSends) ∗ semVal (barCell c) 0 ∗ (bigSep Finset.univ fun s => barPay c s) ∗ staged m c)
        -∗ run c (k ⟨c, word c, v21 (xst m c), v23 (wqst m c)⟩) Q)
      -∗ run c (k0_part1 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 >>= k) Q) := by
  rw [k0_part1_eq_skeleton]
  unfold k0_part1_skel O₀ barIn staged
  simp only [semSignalWord, semWaitWord, Prog.lift, Prog.bind_op, Prog.bind_ret, Prog.pure_eq_ret, wp_deviceId]
  iintro #HR #HL HO ⟨⟨Ht0, Ha0, Hb0⟩, ⟨Ht1, Ha1, Hb1⟩, ⟨Ht2, Ha2, Hb2⟩, ⟨Ht3, Ha3, Hb3⟩, ⟨Ht4, Ha4, Hb4⟩, Hc, Hat⟩ ⟨Hx, Hwq, Hrest⟩ Hk
  iapply (step_signal m K c _ 0 (dev1_eq c) [1, 2, 3, 4]) $$ HR HO Ht0 Ha0 Hb0; iintro HO
  iapply (step_signal m K c _ 1 (dev2_eq c) [2, 3, 4]) $$ HR HO Ht1 Ha1 Hb1; iintro HO
  iapply (step_signal m K c _ 2 (dev3_eq c) [3, 4]) $$ HR HO Ht2 Ha2 Hb2; iintro HO
  iapply (step_signal m K c _ 3 (dev4_eq c) [4]) $$ HR HO Ht3 Ha3 Hb3; iintro HO
  iapply (step_signal m K c _ 4 (dev5_eq c) []) $$ HR HO Ht4 Ha4 Hb4; iintro HO
  iapply (step_barrier m K c) $$ HR HL Hc HO Hat; iintro ⟨HO, Hz, Hp⟩
  iapply (load_x c (xst m c)) $$ Hx; iintro Hx
  iapply (load_wq c (wqst m c)) $$ Hwq; iintro Hwq
  iapply Hk
  isplitl [HO]; · iexact HO
  isplitl [Hz]; · iexact Hz
  isplitl [Hp]; · iexact Hp
  isplitl [Hx]; · iexact Hx
  isplitl [Hwq] <;> iassumption

theorem part2 {α : Type} (c : Dev nD) (l : List (P F)) {Q : α → sProp 𝕄}
    {k : (Σ' (v25 : FVec F S256x512 .bf16) (v28 : FVec F S128x512 .bf16) (v31 : FVec F S128x512 .bf16) (v39 : FVec F S128x1 .f32) (v54 : FVec F S128x1 .f32), FVec F S128x64 .bf16) → Prog (TpuEff nD τ sig (Elt F) Λ₀ .tc) α} :
    staged m c ⊢ iprop(filling 0 c l -∗ ((staged m c ∗ filling 0 c (⟨Rect.unit (s := S256x640) ![0, 0] S128x64.size inb_S256x640_S128x64_0_0, k0_pay8 (v21 (xst m c)) (v23 (wqst m c)) (v26 (kst m c)) (v29 (vst m c))⟩ :: l))
        -∗ run c (k ⟨v25 (xst m c) (wqst m c), v28 (kst m c), v31 (vst m c), k0_pay7 (v21 (xst m c)) (v23 (wqst m c)) (v26 (kst m c)), k0_pay10 (v21 (xst m c)) (v23 (wqst m c)) (v26 (kst m c)), k0_pay11 (v21 (xst m c)) (v23 (wqst m c)) (v26 (kst m c)) (v29 (vst m c))⟩) Q)
      -∗ run c (k0_part2 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 (v21 (xst m c)) (v23 (wqst m c)) >>= k) Q) := by
  rw [k0_part2_eq_skeleton]
  unfold k0_part2_skel staged
  simp only [Prog.lift, Prog.bind_op, Prog.bind_ret, Prog.pure_eq_ret]
  iintro ⟨Hx, Hwq, Hwo, HK, HV⟩ H Hk
  iapply (load_k c (kst m c)) $$ HK; iintro HK
  iapply (load_v c (vst m c)) $$ HV; iintro HV
  iapply (load_fill 0 c _ (by decide) (by decide)) $$ H; iintro H
  iapply (store_fill 0 c _ (by decide) (by decide)) $$ H; iintro H
  iapply (load_fill 0 c _ (by decide) (by decide)) $$ H; iintro H
  iapply Hk
  isplitr [H]
  · isplitl [Hx]; · iexact Hx
    isplitl [Hwq]; · iexact Hwq
    isplitl [Hwo]; · iexact Hwo
    isplitl [HK] <;> iassumption
  iexact H

theorem part3 {α : Type} (c : Dev nD) (l : List (P F)) (v25 : FVec F S256x512 .bf16) (v28 v31 : FVec F S128x512 .bf16) (v61 : FVec F S128x64 .bf16) {Q : α → sProp 𝕄}
    {k : (Σ' (v69 : FVec F S128x1 .f32) (v84 : FVec F S128x1 .f32) (v99 : FVec F S128x1 .f32), FVec F S128x64 .f32) → Prog (TpuEff nD τ sig (Elt F) Λ₀ .tc) α} :
    filling 0 c l ⊢ iprop((filling 0 c (⟨Rect.unit (s := S256x640) ![0, 192] S128x64.size inb_S256x640_S128x64_0_192, k0_pay17 v25 v28 v31⟩ :: ⟨Rect.unit (s := S256x640) ![0, 128] S128x64.size inb_S256x640_S128x64_0_128, k0_pay14 v25 v28 v31⟩ :: ⟨Rect.unit (s := S256x640) ![0, 64] S128x64.size inb_S256x640_S128x64_0_64, v61⟩ :: l)
        -∗ run c (k ⟨k0_pay13 v25 v28, k0_pay16 v25 v28, k0_pay19 v25 v28, k0_pay20 v25 v28 v31⟩) Q)
      -∗ run c (k0_part3 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 v25 v28 v31 v61 >>= k) Q) := by
  rw [k0_part3_eq_skeleton]
  unfold k0_part3_skel
  simp only [Prog.lift, Prog.bind_op, Prog.bind_ret, Prog.pure_eq_ret]
  iintro H Hk
  iapply (store_fill 0 c _ (by decide) (by decide)) $$ H; iintro H
  iapply (load_fill 0 c _ (by decide) (by decide)) $$ H; iintro H
  iapply (store_fill 0 c _ (by decide) (by decide)) $$ H; iintro H
  iapply (load_fill 0 c _ (by decide) (by decide)) $$ H; iintro H
  iapply (store_fill 0 c _ (by decide) (by decide)) $$ H; iintro H
  iapply Hk; iexact H

theorem part4 {α : Type} (c : Dev nD) (l : List (P F)) (v25 : FVec F S256x512 .bf16) (v28 v31 : FVec F S128x512 .bf16) (v102 : FVec F S128x64 .f32) {Q : α → sProp 𝕄}
    {k : (Σ' (v114 : FVec F S128x1 .f32) (v129 : FVec F S128x1 .f32), FVec F S128x128 .f32) → Prog (TpuEff nD τ sig (Elt F) Λ₀ .tc) α} :
    filling 0 c l ⊢ iprop((filling 0 c (⟨Rect.unit (s := S256x640) ![0, 384] S128x64.size inb_S256x640_S128x64_0_384, k0_pay27 v25 v28 v31⟩ :: ⟨Rect.unit (s := S256x640) ![0, 320] S128x64.size inb_S256x640_S128x64_0_320, k0_pay24 v25 v28 v31⟩ :: ⟨Rect.unit (s := S256x640) ![0, 256] S128x64.size inb_S256x640_S128x64_0_256, k0_pay21 v102⟩ :: l)
        -∗ run c (k ⟨k0_pay23 v25 v28, k0_pay26 v25 v28, k0_pay28 v25 v28⟩) Q)
      -∗ run c (k0_part4 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 v25 v28 v31 v102 >>= k) Q) := by
  rw [k0_part4_eq_skeleton]
  unfold k0_part4_skel
  simp only [Prog.lift, Prog.bind_op, Prog.bind_ret, Prog.pure_eq_ret]
  iintro H Hk
  iapply (load_fill 0 c _ (by decide) (by decide)) $$ H; iintro H
  iapply (store_fill 0 c _ (by decide) (by decide)) $$ H; iintro H
  iapply (load_fill 0 c _ (by decide) (by decide)) $$ H; iintro H
  iapply (store_fill 0 c _ (by decide) (by decide)) $$ H; iintro H
  iapply (load_fill 0 c _ (by decide) (by decide)) $$ H; iintro H
  iapply (store_fill 0 c _ (by decide) (by decide)) $$ H; iintro H
  iapply Hk; iexact H

theorem part5 {α : Type} (c : Dev nD) (l : List (P F)) (w : BitVec 32) (v31 : FVec F S128x512 .bf16) (v39 v54 v69 v84 v99 v114 v129 : FVec F S128x1 .f32) (v142 : FVec F S128x128 .f32)
    (hl : ⟨Rect.unit (s := S256x640) ![0, 512] S128x128.size inb_S256x640_S128x128_0_512, k0_pay30 v39 v54 v69 v84 v99 v114 v129 v142⟩ :: ⟨Rect.unit (s := S256x640) ![0, 448] S128x64.size inb_S256x640_S128x64_0_448, k0_pay29 v31 v142⟩ :: l
      = pieces (xst m c) (wqst m c) (kst m c) (vst m c) 0) {Q : α → sProp 𝕄}
    {k : (Σ' (v170 : FVec F S128x512 .bf16), FVec F S128x8x64 .bf16) → Prog (TpuEff nD τ sig (Elt F) Λ₀ .tc) α} :
    records m K ⊢ iprop(staged m c -∗ filling 0 c l -∗ ready 0 0 c -∗ owesX c (owedL c allSends)
      -∗ ((staged m c ∗ flying 0 0 c ∗ owesX c (owedL c (allSends.drop 1))) -∗ run c (k ⟨v170 (kst m c), v172 (vst m c)⟩) Q)
      -∗ run c (k0_part5 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w v31 v39 v54 v69 v84 v99 v114 v129 v142 >>= k) Q) := by
  rw [k0_part5_eq_skeleton]
  unfold k0_part5_skel staged
  simp only [Prog.lift, Prog.bind_op, Prog.bind_ret, Prog.pure_eq_ret]
  iintro #HR ⟨Hx, Hwq, Hwo, HK, HV⟩ H Hready HO Hk
  iapply (load_fill 0 c _ (by decide) (by decide)) $$ H; iintro H
  iapply (store_fill 0 c _ (by decide) (by decide)) $$ H; iintro H
  iapply (load_fill 0 c _ (by decide) (by decide)) $$ H; iintro H
  iapply (store_fill 0 c _ (by decide) (by decide)) $$ H; iintro H
  rw [hl]
  ihave H := (filled m 0 c) $$ H
  iapply (step_send m K 0 0 c _ (dev6_eq c) 0 rfl allSends (allSends.drop 1) rfl) $$ HR Hready H HO; iintro ⟨Hf, HO⟩
  iapply (load_k c (kst m c)) $$ HK; iintro HK
  iapply (load_v c (vst m c)) $$ HV; iintro HV
  iapply Hk
  isplitr [Hf HO]
  · isplitl [Hx]; · iexact Hx
    isplitl [Hwq]; · iexact Hwq
    isplitl [Hwo]; · iexact Hwo
    isplitl [HK] <;> iassumption
  isplitl [Hf] <;> iassumption

theorem part6 {α : Type} (c : Dev nD) (l : List (P F)) (v25 : FVec F S256x512 .bf16) (v170 : FVec F S128x512 .bf16) (v172 : FVec F S128x8x64 .bf16) {Q : α → sProp 𝕄}
    {k : (Σ' (v173 : FVec F S128x512 .bf16) (v181 : FVec F S128x1 .f32) (v196 : FVec F S128x1 .f32) (v211 : FVec F S128x1 .f32), FVec F S128x64 .f32) → Prog (TpuEff nD τ sig (Elt F) Λ₀ .tc) α} :
    filling 1 c l ⊢ iprop((filling 1 c (⟨Rect.unit (s := S256x640) ![128, 64] S128x64.size inb_S256x640_S128x64_128_64, k0_pay39 v25 v170 v172⟩ :: ⟨Rect.unit (s := S256x640) ![128, 0] S128x64.size inb_S256x640_S128x64_128_0, k0_pay36 v25 v170 v172⟩ :: l)
        -∗ run c (k ⟨k0_pay33 v172, k0_pay35 v25 v170, k0_pay38 v25 v170, k0_pay41 v25 v170, k0_pay42 v25 v170 v172⟩) Q)
      -∗ run c (k0_part6 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 v25 v170 v172 >>= k) Q) := by
  rw [k0_part6_eq_skeleton]
  unfold k0_part6_skel
  simp only [Prog.lift, Prog.bind_op, Prog.bind_ret, Prog.pure_eq_ret]
  iintro H Hk
  iapply (load_fill 1 c _ (by decide) (by decide)) $$ H; iintro H
  iapply (store_fill 1 c _ (by decide) (by decide)) $$ H; iintro H
  iapply (load_fill 1 c _ (by decide) (by decide)) $$ H; iintro H
  iapply (store_fill 1 c _ (by decide) (by decide)) $$ H; iintro H
  iapply Hk; iexact H

theorem part7 {α : Type} (c : Dev nD) (l : List (P F)) (v25 : FVec F S256x512 .bf16) (v170 v173 : FVec F S128x512 .bf16) (v214 : FVec F S128x64 .f32) {Q : α → sProp 𝕄}
    {k : (Σ' (v226 : FVec F S128x1 .f32) (v241 : FVec F S128x1 .f32), FVec F S128x128 .f32) → Prog (TpuEff nD τ sig (Elt F) Λ₀ .tc) α} :
    filling 1 c l ⊢ iprop((filling 1 c (⟨Rect.unit (s := S256x640) ![128, 256] S128x64.size inb_S256x640_S128x64_128_256, k0_pay49 v25 v170 v173⟩ :: ⟨Rect.unit (s := S256x640) ![128, 192] S128x64.size inb_S256x640_S128x64_128_192, k0_pay46 v25 v170 v173⟩ :: ⟨Rect.unit (s := S256x640) ![128, 128] S128x64.size inb_S256x640_S128x64_128_128, k0_pay43 v214⟩ :: l)
        -∗ run c (k ⟨k0_pay45 v25 v170, k0_pay48 v25 v170, k0_pay50 v25 v170⟩) Q)
      -∗ run c (k0_part7 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 v25 v170 v173 v214 >>= k) Q) := by
  rw [k0_part7_eq_skeleton]
  unfold k0_part7_skel
  simp only [Prog.lift, Prog.bind_op, Prog.bind_ret, Prog.pure_eq_ret]
  iintro H Hk
  iapply (load_fill 1 c _ (by decide) (by decide)) $$ H; iintro H
  iapply (store_fill 1 c _ (by decide) (by decide)) $$ H; iintro H
  iapply (load_fill 1 c _ (by decide) (by decide)) $$ H; iintro H
  iapply (store_fill 1 c _ (by decide) (by decide)) $$ H; iintro H
  iapply (load_fill 1 c _ (by decide) (by decide)) $$ H; iintro H
  iapply (store_fill 1 c _ (by decide) (by decide)) $$ H; iintro H
  iapply Hk; iexact H

theorem part8 {α : Type} (c : Dev nD) (l : List (P F)) (v25 : FVec F S256x512 .bf16) (v170 v173 : FVec F S128x512 .bf16) (v181 v196 v211 v226 v241 : FVec F S128x1 .f32) (v254 : FVec F S128x128 .f32) {Q : α → sProp 𝕄}
    {k : FVec F S128x128 .f32 → Prog (TpuEff nD τ sig (Elt F) Λ₀ .tc) α} :
    filling 1 c l ⊢ iprop((filling 1 c (⟨Rect.unit (s := S256x640) ![128, 448] S128x64.size inb_S256x640_S128x64_128_448, k0_pay55 v25 v170 v173⟩ :: ⟨Rect.unit (s := S256x640) ![128, 384] S128x64.size inb_S256x640_S128x64_128_384, k0_pay53 v25 v170 v173⟩ :: ⟨Rect.unit (s := S256x640) ![128, 320] S128x64.size inb_S256x640_S128x64_128_320, k0_pay51 v173 v254⟩ :: l)
        -∗ run c (k (k0_pay56 v25 v170 v181 v196 v211 v226 v241 v254)) Q)
      -∗ run c (k0_part8 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 v25 v170 v173 v181 v196 v211 v226 v241 v254 >>= k) Q) := by
  rw [k0_part8_eq_skeleton]
  unfold k0_part8_skel
  simp only [Prog.lift, Prog.bind_op, Prog.bind_ret, Prog.pure_eq_ret]
  iintro H Hk
  iapply (load_fill 1 c _ (by decide) (by decide)) $$ H; iintro H
  iapply (store_fill 1 c _ (by decide) (by decide)) $$ H; iintro H
  iapply (load_fill 1 c _ (by decide) (by decide)) $$ H; iintro H
  iapply (store_fill 1 c _ (by decide) (by decide)) $$ H; iintro H
  iapply (load_fill 1 c _ (by decide) (by decide)) $$ H; iintro H
  iapply (store_fill 1 c _ (by decide) (by decide)) $$ H; iintro H
  iapply Hk; iexact H

theorem part9 {α : Type} (c : Dev nD) (l : List (P F)) (w : BitVec 32) (v295 : FVec F S128x128 .f32)
    (hl : ⟨Rect.unit (s := S256x640) ![128, 512] S128x128.size inb_S256x640_S128x128_128_512, k0_pay57 v295⟩ :: l = pieces (xst m c) (wqst m c) (kst m c) (vst m c) 1) {Q : α → sProp 𝕄}
    {k : PUnit → Prog (TpuEff nD τ sig (Elt F) Λ₀ .tc) α} :
    records m K ⊢ iprop(levAts L lv -∗ filling 1 c l -∗ ready 1 0 c -∗ owesX c (owedL c (allSends.drop 1)) -∗ flying 0 0 c -∗ atPos ER (sendCell 0 0 c) 0 ∅ 0
      -∗ ((flying 1 0 c ∗ owesX c (owedL c (allSends.drop 2)) ∗ half 0 c (acc m 0 0 c) ∗ semVal (sendCell 0 0 c) 0) -∗ run c (k ⟨⟩) Q)
      -∗ run c (k0_part9 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w v295 >>= k) Q) := by
  rw [k0_part9_eq_skeleton]
  unfold k0_part9_skel
  simp only [Prog.lift, Prog.bind_op, Prog.bind_ret, Prog.pure_eq_ret]
  iintro #HR #HL H Hready HO Hf Hat Hk
  iapply (load_fill 1 c _ (by decide) (by decide)) $$ H; iintro H
  iapply (store_fill 1 c _ (by decide) (by decide)) $$ H; iintro H
  rw [hl]
  ihave H := (filled m 1 c) $$ H
  iapply (step_send m K 1 0 c _ (dev7_eq c) 0 rfl (allSends.drop 1) (allSends.drop 2) rfl) $$ HR Hready H HO; iintro ⟨Hg, HO⟩
  iapply (step_waitSend m K 0 0 c 0 rfl (allSends.drop 2) (by decide)) $$ HR HL Hf HO Hat; iintro ⟨HO, Hh, Hz⟩
  iapply Hk
  isplitl [Hg]; · iexact Hg
  isplitl [HO]; · iexact HO
  isplitl [Hh] <;> iassumption

end Cert.KernelRun

end
-- ==== Proof.Halves.lean ====
/-
# The buffers cut and joined

The accumulator as the rows of its two batches; the receive buffer as its ten landing slots.
-/
module

public import proofs.«01_k».proof.Proof.Steps
public import Idealize.ShloMosaic.Lib.Ring.FamCut

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

theorem emb0 (st : Fin 2) (y : S128x640.Idx) : ((rectH st).emb y 0).val = 128 * st.val + (y 0).val := by
  show 128 * st.val + 1 * (y 0).val = _; omega
theorem emb1 (st : Fin 2) (y : S128x640.Idx) : ((rectH st).emb y 1).val = (y 1).val := by
  show 0 + 1 * (y 1).val = _; omega

theorem emb_inj {st st' : Fin 2} {y y' : S128x640.Idx} (h : (rectH st).emb y = (rectH st').emb y') : st = st' ∧ y = y' := by
  have a0 := emb0 st y; have a1 := emb1 st y
  have b0 := emb0 st' y'; have b1 := emb1 st' y'
  rw [h] at a0 a1
  have l0 : (y 0).val < 128 := (y 0).isLt
  have l1 : (y' 0).val < 128 := (y' 0).isLt
  refine ⟨Fin.ext (by omega), funext (Fin.forall_fin_two.mpr ⟨Fin.ext (by omega), Fin.ext (by omega)⟩)⟩

theorem emb_surj (z : S256x640.Idx) : ∃ q : Fin 2 × S128x640.Idx, (rectH q.1).emb q.2 = z := by
  have z0 : (z 0).val < 256 := (z 0).isLt
  let st : Fin 2 := ⟨(z 0).val / 128, by omega⟩
  have hy : ∀ a : Fin 2, (z a).val - (![128 * st.val, 0] : Fin 2 → ℕ) a < S128x640.size a := by
    have z1 : (z 1).val < 640 := (z 1).isLt
    refine Fin.forall_fin_two.mpr ⟨?_, ?_⟩
    · show (z 0).val - 128 * ((z 0).val / 128) < 128; omega
    · show (z 1).val - 0 < 640; omega
  refine ⟨(st, fun a => ⟨_, hy a⟩), funext (Fin.forall_fin_two.mpr ⟨Fin.ext ?_, Fin.ext ?_⟩)⟩
  · refine (emb0 st _).trans ?_
    show 128 * ((z 0).val / 128) + ((z 0).val - 128 * ((z 0).val / 128)) = (z 0).val; omega
  · refine (emb1 st _).trans ?_
    show (z 1).val - 0 = (z 1).val; omega

theorem emb_mem (st : Fin 2) (y : S128x640.Idx) : (rectH st).emb y ∈ (accV st).view.set := (accV st).view.emb_mem_set y

/-- The accumulator with `Z st` in the rows of batch `st`. -/
def full (Z : Fin 2 → S128x640.Idx → Elt F .bf16) : (cc0_scratch0 : Ref sig .tc).ty.Contents (Elt F) :=
  fun z => Z (emb_surj z).choose.1 (emb_surj z).choose.2

theorem full_emb (Z : Fin 2 → S128x640.Idx → Elt F .bf16) (st : Fin 2) (y : S128x640.Idx) : full Z ((rectH st).emb y) = Z st y := by
  obtain ⟨h1, h2⟩ := emb_inj (emb_surj ((rectH st).emb y)).choose_spec
  show Z _ _ = _
  rw [h1, h2]

theorem acc_disjoint : Disjoint (accV 0).view.set (accV 1).view.set := by
  rw [← acc_set, ← acc_set]
  refine (Finset.disjoint_map _).mpr (Finset.disjoint_left.mpr fun z h0 h1 => ?_)
  rw [Rect.mem_set_unit] at h0 h1
  have a := (h0 0).2; have b := (h1 0).1
  have a' : (z 0).val < 0 + 128 := a
  have b' : 128 ≤ (z 0).val := b
  omega

theorem acc_univ : (accV 0).view.set ∪ (accV 1).view.set = Finset.univ := by
  refine Finset.eq_univ_of_forall fun z => ?_
  obtain ⟨⟨st, y⟩, rfl⟩ := emb_surj z
  fin_cases st
  · exact Finset.mem_union_left _ (emb_mem 0 y)
  · exact Finset.mem_union_right _ (emb_mem 1 y)

/-- The whole accumulator is the two batches' rows, nothing stored yet. -/
theorem acc_split (c : Dev nD) (f : (cc0_scratch0 : Ref sig .tc).ty.Contents (Elt F)) :
    stg c cc0_scratch0 f ⊢ iprop(filling 0 c [] ∗ filling 1 c []) := by
  unfold filling
  iintro H
  ihave H := (Entails.of_eq (show (stg c cc0_scratch0 f : sProp 𝕄)
      = ((c : Thread nD τ).loc cc0_scratch0 ↦[(accV 0).view.set ∪ (accV 1).view.set]{fullShare} f) by rw [acc_univ])) $$ H
  ihave H := (pointsTo_union acc_disjoint).1 $$ H
  icases H with ⟨H0, H1⟩
  isplitl [H0]
  · iexists f; iexact H0
  · iexists f; iexact H1

/-- The two batches' rows are the whole accumulator. -/
theorem acc_join (c : Dev nD) (Z : Fin 2 → S128x640.Idx → Elt F .bf16) :
    iprop(half 0 c (Z 0) ∗ half 1 c (Z 1)) ⊢ stg c cc0_scratch0 (full Z) := by
  unfold half owns
  iintro ⟨⟨%f, %hf, H0⟩, ⟨%g, %hg, H1⟩⟩
  ihave H := (pointsTo_join (ℓ := (c : Thread nD τ).loc cc0_scratch0) (I := (accV 0).view.set) (J := (accV 1).view.set) (f := f) (g := g) acc_disjoint) $$ [H0 H1]
  · isplitl [H0]; · iexact H0
    iexact H1
  rw [acc_univ]
  have e : ((accV 1).view.set.piecewise g f : (cc0_scratch0 : Ref sig .tc).ty.Contents (Elt F)) = full Z := by
    funext z
    obtain ⟨⟨st, y⟩, rfl⟩ := emb_surj z
    rw [full_emb]
    have hz := emb_mem st y
    fin_cases st
    · refine (Finset.piecewise_eq_of_notMem _ _ _ (Finset.disjoint_left.mp acc_disjoint hz)).trans ?_
      exact congrFun hf y
    · refine (Finset.piecewise_eq_of_mem _ _ _ hz).trans ?_
      exact congrFun hg y
  ihave H := (Entails.of_eq (congrArg (fun h => (stg c cc0_scratch0 h : sProp 𝕄)) e)) $$ H
  iexact H

/-- The load of the whole accumulator. -/
theorem load_full {α : Type} (c : Dev nD) (X : (cc0_scratch0 : Ref sig .tc).ty.Contents (Elt F))
    {hl : aM.view.LoadsAt (Rect.unit (s := S256x640) ![0, 0] S256x640.size inb_S256x640_S256x640_0_0).toLoadRect}
    {k : Vec F S256x640 .bf16 → Prog (TpuEff nD τ sig (Elt F) Λ₀ .tc) α} {Q : α → sProp 𝕄} :
    stg c cc0_scratch0 X ⊢ iprop((stg c cc0_scratch0 X -∗ run c (k X) Q)
      -∗ run c (.op (.load aM (Rect.unit (s := S256x640) ![0, 0] S256x640.size inb_S256x640_S256x640_0_0).toLoadRect hl) k) Q) := by
  iintro H Hk
  iapply (wp_load 𝒱₀ (c : Thread nD τ) none Set.univ (m := aM) (Finset.subset_univ _)) $$ H; iintro H
  rw [show aM.view.readAt (Elt F) (Rect.unit (s := S256x640) ![0, 0] S256x640.size inb_S256x640_S256x640_0_0).toLoadRect X = X from
    Memref.readAt_unit_zero (Elt F) cc0_scratch0 hz2 _ X]
  iapply Hk; iexact H

/-! ## The landing slots -/

def slotSet (c : Dev nD) (b : Fin 2 × Fin 5) : Finset (Idx ((c : Thread nD τ).loc cc0_scratch1)) := (slotV b.1 b.2).view.set

theorem slot_disjoint (c : Dev nD) (b b' : Fin 2 × Fin 5) (h : b ≠ b') : Disjoint (slotSet c b) (slotSet c b') := by
  show Disjoint (slotV b.1 b.2).view.set (slotV b'.1 b'.2).view.set
  rw [← slot_set, ← slot_set]
  refine (Finset.disjoint_map _).mpr (Finset.disjoint_left.mpr fun z h0 h1 => h ?_)
  rw [Rect.mem_set_unit] at h0 h1
  have a0 : b.1.val ≤ (z 0).val ∧ (z 0).val < b.1.val + 1 := h0 0
  have b0 : b'.1.val ≤ (z 0).val ∧ (z 0).val < b'.1.val + 1 := h1 0
  have a1 : b.2.val ≤ (z 1).val ∧ (z 1).val < b.2.val + 1 := h0 1
  have b1 : b'.2.val ≤ (z 1).val ∧ (z 1).val < b'.2.val + 1 := h1 1
  exact Prod.ext (Fin.ext (by omega)) (Fin.ext (by omega))

/-- What the slots leave of the receive buffer. -/
def slotRest (c : Dev nD) : sProp 𝕄 := iprop(∃ f, (c : Thread nD τ).loc cc0_scratch1 ↦[Ring.restOf (slotSet c)]{fullShare} f)

theorem slots_split (c : Dev nD) (f : (cc0_scratch1 : Ref sig .tc).ty.Contents (Elt F)) :
    stg c cc0_scratch1 f ⊢ iprop((bigSep Finset.univ fun b : Fin 2 × Fin 5 => slotAny b.1 b.2 c) ∗ slotRest c) := by
  iintro H
  iapply (Ring.fam_split_ex (slotSet c) (slot_disjoint c) (q := fullShare)) $$ [H]
  iexists f; iexact H

theorem slots_join (c : Dev nD) (f₀ : (cc0_scratch1 : Ref sig .tc).ty.Contents (Elt F)) :
    (iprop((bigSep Finset.univ fun b : Fin 2 × Fin 5 => slotAny b.1 b.2 c) ∗ slotRest c) : sProp 𝕄) ⊢ iprop(∃ f, stg c cc0_scratch1 f) :=
  Ring.fam_join (slotSet c) (slot_disjoint c) (q := fullShare) f₀

theorem slot_any (st : Fin 2) (s : Fin 5) (c : Dev nD) (X : S128x640.Idx → Elt F .bf16) : slotHas st s c X ⊢ slotAny st s c := by
  unfold slotHas slotAny owns
  iintro ⟨%f, %hf, H⟩
  iexists f; iexact H

end Cert.KernelRun

end
-- ==== Proof.Exchange.lean ====
/-
# The exchanges

The printed program's parts from the first exchange's wait to the last load of the accumulator. Each is a straight line of
transfers, waits, loads and stores, run by the step lemmas.
-/
module

public import proofs.«01_k».proof.Proof.Fill
public import proofs.«01_k».proof.Proof.Halves

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

/-- The store of a batch's rows with the landed block added. -/
theorem store_next {α : Type} (st : Fin 2) (s : Fin 5) (c : Dev nD) (j : ℕ) (hj : s.val = j) (n : ℕ) (hn : j + 1 = n) (Y : S128x640.Idx → Elt F .bf16)
    (hY : Y = k0_pay58 (acc m st j c) (up (acc m st j (peer s c)))) {hx : (aM.access (rectH st)).Stores Finset.univ}
    {hm : (Finset.univ : Finset (rectH st).shape.Idx) = Finset.univ ∨ ∀ a, (rectH st).stride a = 1}
    {k : PUnit → Prog (TpuEff nD τ sig (Elt F) Λ₀ .tc) α} {Q : α → sProp 𝕄} :
    half st c (acc m st j c) ⊢ iprop((half st c (acc m st n c) -∗ run c (k ⟨⟩) Q) -∗ run c (.op (.store aM (rectH st) Y Finset.univ hx hm) k) Q) := by
  subst hj hn
  rw [acc_succ m st s c, show upd (acc m st s.val c) (acc m st s.val (peer s c)) = Y from hY.symm]
  exact store_half st c _ Y

theorem part10 {α : Type} (c : Dev nD) (w : BitVec 32) {Q : α → sProp 𝕄}
    {k : BitVec 32 → Prog (TpuEff nD τ sig (Elt F) Λ₀ .tc) α} :
    records m K ⊢ iprop(levAts L lv -∗ owesX c (owedL c (allSends.drop 2)) -∗ cred (tallyAt (recvCell 0 0 c) () N) -∗ atPos ER (recvCell 0 0 c) 0 ∅ 0 -∗ half 0 c (acc m 0 0 c) -∗ ready 0 1 c
      -∗ ((owesX c (owedL c (allSends.drop 3)) ∗ slotHas 0 0 c (acc m 0 0 (peer 0 c)) ∗ semVal (recvCell 0 0 c) 0 ∗ flying 0 1 c)
        -∗ run c (k (Scalar.xori w 1#32)) Q)
      -∗ run c (k0_part10 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part10_eq_skeleton]
  unfold k0_part10_skel
  simp only [Prog.lift, Prog.bind_op, Prog.bind_ret, Prog.pure_eq_ret]
  iintro #HR #HL HO Hc00 Har00 H0 Hr01 Hk
  iapply (step_waitRecv m K 0 0 c 0 rfl (allSends.drop 2) (by decide)) $$ HR HL Hc00 HO Har00; iintro ⟨HO, Hg00, Hzr00⟩
  iapply (load_half 0 c _) $$ H0; iintro H0
  iapply (load_slot 0 0 c _) $$ Hg00; iintro Hg00
  iapply (load_half 0 c _) $$ H0; iintro H0
  iapply (store_next m 0 0 c 0 rfl 1 rfl _ rfl) $$ H0; iintro H0
  iapply (step_send m K 0 1 c _ (dev8_eq c) 1 rfl (allSends.drop 2) (allSends.drop 3) rfl) $$ HR Hr01 H0 HO; iintro ⟨Hf0, HO⟩
  iapply Hk
  isplitl [HO]; · iexact HO
  isplitl [Hg00]; · iexact Hg00
  isplitl [Hzr00]; · iexact Hzr00
  iexact Hf0

theorem part11 {α : Type} (c : Dev nD) (w : BitVec 32) (w' : BitVec 32) {Q : α → sProp 𝕄}
    {k : PUnit → Prog (TpuEff nD τ sig (Elt F) Λ₀ .tc) α} :
    records m K ⊢ iprop(levAts L lv -∗ owesX c (owedL c (allSends.drop 3)) -∗ flying 1 0 c -∗ atPos ER (sendCell 1 0 c) 0 ∅ 0 -∗ cred (tallyAt (recvCell 1 0 c) () N) -∗ atPos ER (recvCell 1 0 c) 0 ∅ 0
      -∗ ((owesX c (owedL c (allSends.drop 3)) ∗ half 1 c (acc m 1 1 c) ∗ semVal (sendCell 1 0 c) 0 ∗ slotHas 1 0 c (acc m 1 0 (peer 0 c)) ∗ semVal (recvCell 1 0 c) 0)
        -∗ run c (k ⟨⟩) Q)
      -∗ run c (k0_part11 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 w w' >>= k) Q) := by
  rw [k0_part11_eq_skeleton]
  unfold k0_part11_skel
  simp only [Prog.lift, Prog.bind_op, Prog.bind_ret, Prog.pure_eq_ret]
  iintro #HR #HL HO Hf1 Has10 Hc10 Har10 Hk
  iapply (step_waitSend m K 1 0 c 0 rfl (allSends.drop 3) (by decide)) $$ HR HL Hf1 HO Has10; iintro ⟨HO, H1, Hzs10⟩
  iapply (step_waitRecv m K 1 0 c 0 rfl (allSends.drop 3) (by decide)) $$ HR HL Hc10 HO Har10; iintro ⟨HO, Hg10, Hzr10⟩
  iapply (load_half 1 c _) $$ H1; iintro H1
  iapply (load_slot 1 0 c _) $$ Hg10; iintro Hg10
  iapply (load_half 1 c _) $$ H1; iintro H1
  iapply (store_next m 1 0 c 0 rfl 1 rfl _ rfl) $$ H1; iintro H1
  iapply Hk
  isplitl [HO]; · iexact HO
  isplitl [H1]; · iexact H1
  isplitl [Hzs10]; · iexact Hzs10
  isplitl [Hg10]; · iexact Hg10
  iexact Hzr10

theorem part12 {α : Type} (c : Dev nD) (w : BitVec 32) {Q : α → sProp 𝕄}
    {k : FVec F S128x640 .bf16 → Prog (TpuEff nD τ sig (Elt F) Λ₀ .tc) α} :
    records m K ⊢ iprop(levAts L lv -∗ owesX c (owedL c (allSends.drop 3)) -∗ ready 1 1 c -∗ half 1 c (acc m 1 1 c) -∗ flying 0 1 c -∗ atPos ER (sendCell 0 1 c) 0 ∅ 0 -∗ cred (tallyAt (recvCell 0 1 c) () N) -∗ atPos ER (recvCell 0 1 c) 0 ∅ 0
      -∗ ((owesX c (owedL c (allSends.drop 4)) ∗ flying 1 1 c ∗ half 0 c (acc m 0 1 c) ∗ semVal (sendCell 0 1 c) 0 ∗ slotHas 0 1 c (acc m 0 1 (peer 1 c)) ∗ semVal (recvCell 0 1 c) 0)
        -∗ run c (k (k0_pay60 (acc m 0 1 c) (up (acc m 0 1 (peer 1 c))))) Q)
      -∗ run c (k0_part12 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part12_eq_skeleton]
  unfold k0_part12_skel
  simp only [Prog.lift, Prog.bind_op, Prog.bind_ret, Prog.pure_eq_ret]
  iintro #HR #HL HO Hr11 H1 Hf0 Has01 Hc01 Har01 Hk
  iapply (step_send m K 1 1 c _ (dev9_eq c) 1 rfl (allSends.drop 3) (allSends.drop 4) rfl) $$ HR Hr11 H1 HO; iintro ⟨Hf1, HO⟩
  iapply (step_waitSend m K 0 1 c 1 rfl (allSends.drop 4) (by decide)) $$ HR HL Hf0 HO Has01; iintro ⟨HO, H0, Hzs01⟩
  iapply (step_waitRecv m K 0 1 c 1 rfl (allSends.drop 4) (by decide)) $$ HR HL Hc01 HO Har01; iintro ⟨HO, Hg01, Hzr01⟩
  iapply (load_half 0 c _) $$ H0; iintro H0
  iapply (load_slot 0 1 c _) $$ Hg01; iintro Hg01
  iapply Hk
  isplitl [HO]; · iexact HO
  isplitl [Hf1]; · iexact Hf1
  isplitl [H0]; · iexact H0
  isplitl [Hzs01]; · iexact Hzs01
  isplitl [Hg01]; · iexact Hg01
  iexact Hzr01

theorem part13 {α : Type} (c : Dev nD) (w : BitVec 32)
    (v386 : FVec F S128x640 .bf16) (hv : (k0_pay61 v386) = k0_pay58 (acc m 0 1 c) (up (acc m 0 1 (peer 1 c)))) {Q : α → sProp 𝕄}
    {k : PUnit → Prog (TpuEff nD τ sig (Elt F) Λ₀ .tc) α} :
    records m K ⊢ iprop(levAts L lv -∗ owesX c (owedL c (allSends.drop 4)) -∗ half 0 c (acc m 0 1 c) -∗ ready 0 2 c -∗ flying 1 1 c -∗ atPos ER (sendCell 1 1 c) 0 ∅ 0
      -∗ ((owesX c (owedL c (allSends.drop 5)) ∗ flying 0 2 c ∗ half 1 c (acc m 1 1 c) ∗ semVal (sendCell 1 1 c) 0)
        -∗ run c (k ⟨⟩) Q)
      -∗ run c (k0_part13 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w v386 >>= k) Q) := by
  rw [k0_part13_eq_skeleton]
  unfold k0_part13_skel
  simp only [Prog.lift, Prog.bind_op, Prog.bind_ret, Prog.pure_eq_ret]
  iintro #HR #HL HO H0 Hr02 Hf1 Has11 Hk
  iapply (load_half 0 c _) $$ H0; iintro H0
  iapply (store_next m 0 1 c 1 rfl 2 rfl _ hv) $$ H0; iintro H0
  iapply (step_send m K 0 2 c _ (dev10_eq c) 2 rfl (allSends.drop 4) (allSends.drop 5) rfl) $$ HR Hr02 H0 HO; iintro ⟨Hf0, HO⟩
  iapply (step_waitSend m K 1 1 c 1 rfl (allSends.drop 5) (by decide)) $$ HR HL Hf1 HO Has11; iintro ⟨HO, H1, Hzs11⟩
  iapply Hk
  isplitl [HO]; · iexact HO
  isplitl [Hf0]; · iexact Hf0
  isplitl [H1]; · iexact H1
  iexact Hzs11

theorem part14 {α : Type} (c : Dev nD) (w : BitVec 32) {Q : α → sProp 𝕄}
    {k : BitVec 32 → Prog (TpuEff nD τ sig (Elt F) Λ₀ .tc) α} :
    records m K ⊢ iprop(levAts L lv -∗ owesX c (owedL c (allSends.drop 5)) -∗ cred (tallyAt (recvCell 1 1 c) () N) -∗ atPos ER (recvCell 1 1 c) 0 ∅ 0 -∗ half 1 c (acc m 1 1 c) -∗ ready 1 2 c
      -∗ ((owesX c (owedL c (allSends.drop 6)) ∗ slotHas 1 1 c (acc m 1 1 (peer 1 c)) ∗ semVal (recvCell 1 1 c) 0 ∗ flying 1 2 c)
        -∗ run c (k (Scalar.xori w 4#32)) Q)
      -∗ run c (k0_part14 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part14_eq_skeleton]
  unfold k0_part14_skel
  simp only [Prog.lift, Prog.bind_op, Prog.bind_ret, Prog.pure_eq_ret]
  iintro #HR #HL HO Hc11 Har11 H1 Hr12 Hk
  iapply (step_waitRecv m K 1 1 c 1 rfl (allSends.drop 5) (by decide)) $$ HR HL Hc11 HO Har11; iintro ⟨HO, Hg11, Hzr11⟩
  iapply (load_half 1 c _) $$ H1; iintro H1
  iapply (load_slot 1 1 c _) $$ Hg11; iintro Hg11
  iapply (load_half 1 c _) $$ H1; iintro H1
  iapply (store_next m 1 1 c 1 rfl 2 rfl _ rfl) $$ H1; iintro H1
  iapply (step_send m K 1 2 c _ (dev11_eq c) 2 rfl (allSends.drop 5) (allSends.drop 6) rfl) $$ HR Hr12 H1 HO; iintro ⟨Hf1, HO⟩
  iapply Hk
  isplitl [HO]; · iexact HO
  isplitl [Hg11]; · iexact Hg11
  isplitl [Hzr11]; · iexact Hzr11
  iexact Hf1

theorem part15 {α : Type} (c : Dev nD) (w : BitVec 32) (w' : BitVec 32) {Q : α → sProp 𝕄}
    {k : PUnit → Prog (TpuEff nD τ sig (Elt F) Λ₀ .tc) α} :
    records m K ⊢ iprop(levAts L lv -∗ owesX c (owedL c (allSends.drop 6)) -∗ flying 0 2 c -∗ atPos ER (sendCell 0 2 c) 0 ∅ 0 -∗ cred (tallyAt (recvCell 0 2 c) () N) -∗ atPos ER (recvCell 0 2 c) 0 ∅ 0
      -∗ ((owesX c (owedL c (allSends.drop 6)) ∗ half 0 c (acc m 0 3 c) ∗ semVal (sendCell 0 2 c) 0 ∗ slotHas 0 2 c (acc m 0 2 (peer 2 c)) ∗ semVal (recvCell 0 2 c) 0)
        -∗ run c (k ⟨⟩) Q)
      -∗ run c (k0_part15 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 w w' >>= k) Q) := by
  rw [k0_part15_eq_skeleton]
  unfold k0_part15_skel
  simp only [Prog.lift, Prog.bind_op, Prog.bind_ret, Prog.pure_eq_ret]
  iintro #HR #HL HO Hf0 Has02 Hc02 Har02 Hk
  iapply (step_waitSend m K 0 2 c 2 rfl (allSends.drop 6) (by decide)) $$ HR HL Hf0 HO Has02; iintro ⟨HO, H0, Hzs02⟩
  iapply (step_waitRecv m K 0 2 c 2 rfl (allSends.drop 6) (by decide)) $$ HR HL Hc02 HO Har02; iintro ⟨HO, Hg02, Hzr02⟩
  iapply (load_half 0 c _) $$ H0; iintro H0
  iapply (load_slot 0 2 c _) $$ Hg02; iintro Hg02
  iapply (load_half 0 c _) $$ H0; iintro H0
  iapply (store_next m 0 2 c 2 rfl 3 rfl _ rfl) $$ H0; iintro H0
  iapply Hk
  isplitl [HO]; · iexact HO
  isplitl [H0]; · iexact H0
  isplitl [Hzs02]; · iexact Hzs02
  isplitl [Hg02]; · iexact Hg02
  iexact Hzr02

theorem part16 {α : Type} (c : Dev nD) (w : BitVec 32) {Q : α → sProp 𝕄}
    {k : FVec F S128x640 .bf16 → Prog (TpuEff nD τ sig (Elt F) Λ₀ .tc) α} :
    records m K ⊢ iprop(levAts L lv -∗ owesX c (owedL c (allSends.drop 6)) -∗ ready 0 3 c -∗ half 0 c (acc m 0 3 c) -∗ flying 1 2 c -∗ atPos ER (sendCell 1 2 c) 0 ∅ 0 -∗ cred (tallyAt (recvCell 1 2 c) () N) -∗ atPos ER (recvCell 1 2 c) 0 ∅ 0
      -∗ ((owesX c (owedL c (allSends.drop 7)) ∗ flying 0 3 c ∗ half 1 c (acc m 1 2 c) ∗ semVal (sendCell 1 2 c) 0 ∗ slotHas 1 2 c (acc m 1 2 (peer 2 c)) ∗ semVal (recvCell 1 2 c) 0)
        -∗ run c (k (k0_pay64 (acc m 1 2 c) (up (acc m 1 2 (peer 2 c))))) Q)
      -∗ run c (k0_part16 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part16_eq_skeleton]
  unfold k0_part16_skel
  simp only [Prog.lift, Prog.bind_op, Prog.bind_ret, Prog.pure_eq_ret]
  iintro #HR #HL HO Hr03 H0 Hf1 Has12 Hc12 Har12 Hk
  iapply (step_send m K 0 3 c _ (dev12_eq c) 3 rfl (allSends.drop 6) (allSends.drop 7) rfl) $$ HR Hr03 H0 HO; iintro ⟨Hf0, HO⟩
  iapply (step_waitSend m K 1 2 c 2 rfl (allSends.drop 7) (by decide)) $$ HR HL Hf1 HO Has12; iintro ⟨HO, H1, Hzs12⟩
  iapply (step_waitRecv m K 1 2 c 2 rfl (allSends.drop 7) (by decide)) $$ HR HL Hc12 HO Har12; iintro ⟨HO, Hg12, Hzr12⟩
  iapply (load_half 1 c _) $$ H1; iintro H1
  iapply (load_slot 1 2 c _) $$ Hg12; iintro Hg12
  iapply (load_half 1 c _) $$ H1; iintro H1
  iapply Hk
  isplitl [HO]; · iexact HO
  isplitl [Hf0]; · iexact Hf0
  isplitl [H1]; · iexact H1
  isplitl [Hzs12]; · iexact Hzs12
  isplitl [Hg12]; · iexact Hg12
  iexact Hzr12

theorem part17 {α : Type} (c : Dev nD) (w : BitVec 32)
    (v479 : FVec F S128x640 .bf16) (hv : v479 = k0_pay58 (acc m 1 2 c) (up (acc m 1 2 (peer 2 c)))) {Q : α → sProp 𝕄}
    {k : PUnit → Prog (TpuEff nD τ sig (Elt F) Λ₀ .tc) α} :
    records m K ⊢ iprop(levAts L lv -∗ owesX c (owedL c (allSends.drop 7)) -∗ half 1 c (acc m 1 2 c) -∗ ready 1 3 c -∗ flying 0 3 c -∗ atPos ER (sendCell 0 3 c) 0 ∅ 0
      -∗ ((owesX c (owedL c (allSends.drop 8)) ∗ flying 1 3 c ∗ half 0 c (acc m 0 3 c) ∗ semVal (sendCell 0 3 c) 0)
        -∗ run c (k ⟨⟩) Q)
      -∗ run c (k0_part17 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w v479 >>= k) Q) := by
  rw [k0_part17_eq_skeleton]
  unfold k0_part17_skel
  simp only [Prog.lift, Prog.bind_op, Prog.bind_ret, Prog.pure_eq_ret]
  iintro #HR #HL HO H1 Hr13 Hf0 Has03 Hk
  iapply (store_next m 1 2 c 2 rfl 3 rfl _ hv) $$ H1; iintro H1
  iapply (step_send m K 1 3 c _ (dev13_eq c) 3 rfl (allSends.drop 7) (allSends.drop 8) rfl) $$ HR Hr13 H1 HO; iintro ⟨Hf1, HO⟩
  iapply (step_waitSend m K 0 3 c 3 rfl (allSends.drop 8) (by decide)) $$ HR HL Hf0 HO Has03; iintro ⟨HO, H0, Hzs03⟩
  iapply Hk
  isplitl [HO]; · iexact HO
  isplitl [Hf1]; · iexact Hf1
  isplitl [H0]; · iexact H0
  iexact Hzs03

theorem part18 {α : Type} (c : Dev nD) (w : BitVec 32) {Q : α → sProp 𝕄}
    {k : BitVec 32 → Prog (TpuEff nD τ sig (Elt F) Λ₀ .tc) α} :
    records m K ⊢ iprop(levAts L lv -∗ owesX c (owedL c (allSends.drop 8)) -∗ cred (tallyAt (recvCell 0 3 c) () N) -∗ atPos ER (recvCell 0 3 c) 0 ∅ 0 -∗ half 0 c (acc m 0 3 c) -∗ ready 0 4 c
      -∗ ((owesX c (owedL c (allSends.drop 9)) ∗ slotHas 0 3 c (acc m 0 3 (peer 3 c)) ∗ semVal (recvCell 0 3 c) 0 ∗ flying 0 4 c)
        -∗ run c (k (Scalar.xori w 8#32)) Q)
      -∗ run c (k0_part18 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part18_eq_skeleton]
  unfold k0_part18_skel
  simp only [Prog.lift, Prog.bind_op, Prog.bind_ret, Prog.pure_eq_ret]
  iintro #HR #HL HO Hc03 Har03 H0 Hr04 Hk
  iapply (step_waitRecv m K 0 3 c 3 rfl (allSends.drop 8) (by decide)) $$ HR HL Hc03 HO Har03; iintro ⟨HO, Hg03, Hzr03⟩
  iapply (load_half 0 c _) $$ H0; iintro H0
  iapply (load_slot 0 3 c _) $$ Hg03; iintro Hg03
  iapply (load_half 0 c _) $$ H0; iintro H0
  iapply (store_next m 0 3 c 3 rfl 4 rfl _ rfl) $$ H0; iintro H0
  iapply (step_send m K 0 4 c _ (dev14_eq c) 4 rfl (allSends.drop 8) (allSends.drop 9) rfl) $$ HR Hr04 H0 HO; iintro ⟨Hf0, HO⟩
  iapply Hk
  isplitl [HO]; · iexact HO
  isplitl [Hg03]; · iexact Hg03
  isplitl [Hzr03]; · iexact Hzr03
  iexact Hf0

theorem part19 {α : Type} (c : Dev nD) (w : BitVec 32) (w' : BitVec 32) {Q : α → sProp 𝕄}
    {k : PUnit → Prog (TpuEff nD τ sig (Elt F) Λ₀ .tc) α} :
    records m K ⊢ iprop(levAts L lv -∗ owesX c (owedL c (allSends.drop 9)) -∗ flying 1 3 c -∗ atPos ER (sendCell 1 3 c) 0 ∅ 0 -∗ cred (tallyAt (recvCell 1 3 c) () N) -∗ atPos ER (recvCell 1 3 c) 0 ∅ 0
      -∗ ((owesX c (owedL c (allSends.drop 9)) ∗ half 1 c (acc m 1 4 c) ∗ semVal (sendCell 1 3 c) 0 ∗ slotHas 1 3 c (acc m 1 3 (peer 3 c)) ∗ semVal (recvCell 1 3 c) 0)
        -∗ run c (k ⟨⟩) Q)
      -∗ run c (k0_part19 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 w w' >>= k) Q) := by
  rw [k0_part19_eq_skeleton]
  unfold k0_part19_skel
  simp only [Prog.lift, Prog.bind_op, Prog.bind_ret, Prog.pure_eq_ret]
  iintro #HR #HL HO Hf1 Has13 Hc13 Har13 Hk
  iapply (step_waitSend m K 1 3 c 3 rfl (allSends.drop 9) (by decide)) $$ HR HL Hf1 HO Has13; iintro ⟨HO, H1, Hzs13⟩
  iapply (step_waitRecv m K 1 3 c 3 rfl (allSends.drop 9) (by decide)) $$ HR HL Hc13 HO Har13; iintro ⟨HO, Hg13, Hzr13⟩
  iapply (load_half 1 c _) $$ H1; iintro H1
  iapply (load_slot 1 3 c _) $$ Hg13; iintro Hg13
  iapply (load_half 1 c _) $$ H1; iintro H1
  iapply (store_next m 1 3 c 3 rfl 4 rfl _ rfl) $$ H1; iintro H1
  iapply Hk
  isplitl [HO]; · iexact HO
  isplitl [H1]; · iexact H1
  isplitl [Hzs13]; · iexact Hzs13
  isplitl [Hg13]; · iexact Hg13
  iexact Hzr13

theorem part20 {α : Type} (c : Dev nD) (w : BitVec 32) {Q : α → sProp 𝕄}
    {k : BitVec 32 → Prog (TpuEff nD τ sig (Elt F) Λ₀ .tc) α} :
    records m K ⊢ iprop(levAts L lv -∗ owesX c (owedL c (allSends.drop 9)) -∗ ready 1 4 c -∗ half 1 c (acc m 1 4 c) -∗ flying 0 4 c -∗ atPos ER (sendCell 0 4 c) 0 ∅ 0 -∗ cred (tallyAt (recvCell 0 4 c) () N) -∗ atPos ER (recvCell 0 4 c) 0 ∅ 0
      -∗ ((owesX c (owedL c (allSends.drop 10)) ∗ flying 1 4 c ∗ half 0 c (acc m 0 5 c) ∗ semVal (sendCell 0 4 c) 0 ∗ slotHas 0 4 c (acc m 0 4 (peer 4 c)) ∗ semVal (recvCell 0 4 c) 0)
        -∗ run c (k (Scalar.xori w 16#32)) Q)
      -∗ run c (k0_part20 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 c w >>= k) Q) := by
  rw [k0_part20_eq_skeleton]
  unfold k0_part20_skel
  simp only [Prog.lift, Prog.bind_op, Prog.bind_ret, Prog.pure_eq_ret]
  iintro #HR #HL HO Hr14 H1 Hf0 Has04 Hc04 Har04 Hk
  iapply (step_send m K 1 4 c _ (dev15_eq c) 4 rfl (allSends.drop 9) (allSends.drop 10) rfl) $$ HR Hr14 H1 HO; iintro ⟨Hf1, HO⟩
  iapply (step_waitSend m K 0 4 c 4 rfl (allSends.drop 10) (by decide)) $$ HR HL Hf0 HO Has04; iintro ⟨HO, H0, Hzs04⟩
  iapply (step_waitRecv m K 0 4 c 4 rfl (allSends.drop 10) (by decide)) $$ HR HL Hc04 HO Har04; iintro ⟨HO, Hg04, Hzr04⟩
  iapply (load_half 0 c _) $$ H0; iintro H0
  iapply (load_slot 0 4 c _) $$ Hg04; iintro Hg04
  iapply (load_half 0 c _) $$ H0; iintro H0
  iapply (store_next m 0 4 c 4 rfl 5 rfl _ rfl) $$ H0; iintro H0
  iapply Hk
  isplitl [HO]; · iexact HO
  isplitl [Hf1]; · iexact Hf1
  isplitl [H0]; · iexact H0
  isplitl [Hzs04]; · iexact Hzs04
  isplitl [Hg04]; · iexact Hg04
  iexact Hzr04

theorem part21 {α : Type} (c : Dev nD)  (w' : BitVec 32) {Q : α → sProp 𝕄}
    {k : (Σ' (v591 : FVec F S256x640 .f32) (v592 : FVec F S256x64 .f32), FVec F S256x64 .f32) → Prog (TpuEff nD τ sig (Elt F) Λ₀ .tc) α} :
    records m K ⊢ iprop(levAts L lv -∗ owesX c (owedL c (allSends.drop 10)) -∗ flying 1 4 c -∗ atPos ER (sendCell 1 4 c) 0 ∅ 0 -∗ cred (tallyAt (recvCell 1 4 c) () N) -∗ atPos ER (recvCell 1 4 c) 0 ∅ 0 -∗ half 0 c (acc m 0 5 c)
      -∗ ((owesX c (owedL c (allSends.drop 10)) ∗ semVal (sendCell 1 4 c) 0 ∗ slotHas 1 4 c (acc m 1 4 (peer 4 c)) ∗ semVal (recvCell 1 4 c) 0 ∗ stg c cc0_scratch0 (full fun st => acc m st 5 c))
        -∗ run c (k ⟨k0_pay69 (full fun st => acc m st 5 c), k0_pay70 (full fun st => acc m st 5 c), k0_pay71 (full fun st => acc m st 5 c)⟩) Q)
      -∗ run c (k0_part21 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3 w' >>= k) Q) := by
  rw [k0_part21_eq_skeleton]
  unfold k0_part21_skel
  simp only [Prog.lift, Prog.bind_op, Prog.bind_ret, Prog.pure_eq_ret]
  iintro #HR #HL HO Hf1 Has14 Hc14 Har14 H0 Hk
  iapply (step_waitSend m K 1 4 c 4 rfl (allSends.drop 10) (by decide)) $$ HR HL Hf1 HO Has14; iintro ⟨HO, H1, Hzs14⟩
  iapply (step_waitRecv m K 1 4 c 4 rfl (allSends.drop 10) (by decide)) $$ HR HL Hc14 HO Har14; iintro ⟨HO, Hg14, Hzr14⟩
  iapply (load_half 1 c _) $$ H1; iintro H1
  iapply (load_slot 1 4 c _) $$ Hg14; iintro Hg14
  iapply (load_half 1 c _) $$ H1; iintro H1
  iapply (store_next m 1 4 c 4 rfl 5 rfl _ rfl) $$ H1; iintro H1
  ihave HA := (acc_join c fun st => acc m st 5 c) $$ [H0 H1]
  · isplitl [H0] <;> iassumption
  iapply (load_full c _) $$ HA; iintro HA
  iapply Hk
  isplitl [HO]; · iexact HO
  isplitl [Hzs14]; · iexact Hzs14
  isplitl [Hg14]; · iexact Hg14
  isplitl [Hzr14]; · iexact Hzr14
  iexact HA

end Cert.KernelRun

end
-- ==== Proof.Body.lean ====
/-
# The body

The parts in order, from what the launch leaves a device to what it holds at the end.
-/
module

public import proofs.«01_k».proof.Proof.Exchange

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

/-- One assertion per batch and step, in the order of the transfers. -/
def all10 (Φ : Fin 2 → Fin 5 → sProp 𝕄) : sProp 𝕄 :=
  iprop(Φ 0 0 ∗ Φ 1 0 ∗ Φ 0 1 ∗ Φ 1 1 ∗ Φ 0 2 ∗ Φ 1 2 ∗ Φ 0 3 ∗ Φ 1 3 ∗ Φ 0 4 ∗ Φ 1 4)

omit [FloatOps F] in
theorem all10_eq (Φ : Fin 2 × Fin 5 → sProp 𝕄) : bigSep Finset.univ Φ = all10 fun st s => Φ (st, s) :=
  bigSep_univ_eq_bigSepL [(((0 : Fin 2), (0 : Fin 5))), (((1 : Fin 2), (0 : Fin 5))), (((0 : Fin 2), (1 : Fin 5))), (((1 : Fin 2), (1 : Fin 5))), (((0 : Fin 2), (2 : Fin 5))), (((1 : Fin 2), (2 : Fin 5))), (((0 : Fin 2), (3 : Fin 5))), (((1 : Fin 2), (3 : Fin 5))), (((0 : Fin 2), (4 : Fin 5))), (((1 : Fin 2), (4 : Fin 5)))] (by decide) (by decide) Φ

omit [FloatOps F] in
theorem all5_eq (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The duties a device fills with a transfer. -/
def duty (st : Fin 2) (s : Fin 5) (c : Dev nD) : sProp 𝕄 :=
  iprop(dutyTok ER (sendCell st s c) 0 0 ∗ dutyTok ER (recvCell st s (peer s c)) 0 0)

/-- The accumulator after the last exchange. -/
def accEnd (c : Dev nD) : (cc0_scratch0 : Ref sig .tc).ty.Contents (Elt F) := full fun st => acc m st 5 c

/-- What the device stores: the quotient of the sums, projected. -/
def outv (c : Dev nD) : (cc0_stg5_0 : Ref sig .tc).ty.Contents (Elt F) :=
  k0_pay72 (k0_pay69 (accEnd m c)) (k0_pay70 (accEnd m c)) (k0_pay71 (accEnd m c)) (wost m c)

theorem outv_eq (c : Dev nD) : k0_pay72 (k0_pay69 (full fun st => acc m st 5 c)) (k0_pay70 (full fun st => acc m st 5 c))
    (k0_pay71 (full fun st => acc m st 5 c)) (wost m c) = outv m c := rfl

/-- All the parts, to the value of the one store of the result. -/
theorem part22 (c : Dev nD) {Q : FVec F S2x128x512 .f32 → sProp 𝕄} :
    records m K ⊢ iprop(levAts L lv -∗ owesX c (O₀ c) -∗ barIn c -∗ staged m c -∗ filling 0 c [] -∗ filling 1 c []
      -∗ all10 (fun st s => duty st s c) -∗ all10 (fun st s => waiting st s c)
      -∗ ((owesX c (owedL c []) ∗ semVal (barCell c) 0 ∗ staged m c ∗ stg c cc0_scratch0 (accEnd m c) ∗ all10 (fun st s => slotAny st s c)
            ∗ all10 (fun st s => semVal (sendCell st s c) 0) ∗ all10 (fun st s => semVal (recvCell st s c) 0)) -∗ Q (outv m c))
      -∗ run c (k0_part22 xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3) Q) := by
  rw [k0_part22_eq_skeleton]
  unfold k0_part22_skel all10 duty waiting
  iintro #HR #HL HO Hbar HS H0 H1 ⟨⟨Hts00, Htr00⟩, ⟨Hts10, Htr10⟩, ⟨Hts01, Htr01⟩, ⟨Hts11, Htr11⟩, ⟨Hts02, Htr02⟩, ⟨Hts12, Htr12⟩, ⟨Hts03, Htr03⟩, ⟨Hts13, Htr13⟩, ⟨Hts04, Htr04⟩, ⟨Hts14, Htr14⟩⟩
    ⟨⟨Has00, Har00, Hc00⟩, ⟨Has10, Har10, Hc10⟩, ⟨Has01, Har01, Hc01⟩, ⟨Has11, Har11, Hc11⟩, ⟨Has02, Har02, Hc02⟩, ⟨Has12, Har12, Hc12⟩, ⟨Has03, Har03, Hc03⟩, ⟨Has13, Har13, Hc13⟩, ⟨Has04, Har04, Hc04⟩, ⟨Has14, Har14, Hc14⟩⟩ Hk
  iapply (part1 m K c) $$ HR HL HO Hbar HS; iintro ⟨HO, HzB, Hp, HS⟩
  ihave Hp := (Entails.of_eq (all5_eq fun s => barPay c s)) $$ Hp
  unfold barPay
  icases Hp with ⟨⟨Hs00, Hs10⟩, ⟨Hs01, Hs11⟩, ⟨Hs02, Hs12⟩, ⟨Hs03, Hs13⟩, ⟨Hs04, Hs14⟩⟩
  ihave Hr00 : ready 0 0 c $$ [Hs00 Hts00 Htr00]
  · unfold ready; isplitl [Hs00]; · iexact Hs00
    isplitl [Hts00] <;> iassumption
  ihave Hr10 : ready 1 0 c $$ [Hs10 Hts10 Htr10]
  · unfold ready; isplitl [Hs10]; · iexact Hs10
    isplitl [Hts10] <;> iassumption
  ihave Hr01 : ready 0 1 c $$ [Hs01 Hts01 Htr01]
  · unfold ready; isplitl [Hs01]; · iexact Hs01
    isplitl [Hts01] <;> iassumption
  ihave Hr11 : ready 1 1 c $$ [Hs11 Hts11 Htr11]
  · unfold ready; isplitl [Hs11]; · iexact Hs11
    isplitl [Hts11] <;> iassumption
  ihave Hr02 : ready 0 2 c $$ [Hs02 Hts02 Htr02]
  · unfold ready; isplitl [Hs02]; · iexact Hs02
    isplitl [Hts02] <;> iassumption
  ihave Hr12 : ready 1 2 c $$ [Hs12 Hts12 Htr12]
  · unfold ready; isplitl [Hs12]; · iexact Hs12
    isplitl [Hts12] <;> iassumption
  ihave Hr03 : ready 0 3 c $$ [Hs03 Hts03 Htr03]
  · unfold ready; isplitl [Hs03]; · iexact Hs03
    isplitl [Hts03] <;> iassumption
  ihave Hr13 : ready 1 3 c $$ [Hs13 Hts13 Htr13]
  · unfold ready; isplitl [Hs13]; · iexact Hs13
    isplitl [Hts13] <;> iassumption
  ihave Hr04 : ready 0 4 c $$ [Hs04 Hts04 Htr04]
  · unfold ready; isplitl [Hs04]; · iexact Hs04
    isplitl [Hts04] <;> iassumption
  ihave Hr14 : ready 1 4 c $$ [Hs14 Hts14 Htr14]
  · unfold ready; isplitl [Hs14]; · iexact Hs14
    isplitl [Hts14] <;> iassumption
  iapply (part2 m c []) $$ HS H0; iintro ⟨HS, H0⟩
  iapply (part3 c _ _ _ _ _) $$ H0; iintro H0
  iapply (part4 c _ _ _ _ _) $$ H0; iintro H0
  iapply (part5 m K c _ _ _ _ _ _ _ _ _ _ _ rfl) $$ HR HS H0 Hr00 HO; iintro ⟨HS, Hf0, HO⟩
  iapply (part6 c _ _ _ _) $$ H1; iintro H1
  rw [show k0_pay33 (v172 (vst m c)) = v173 (vst m c) from rfl]
  iapply (part7 c _ _ _ _ _) $$ H1; iintro H1
  iapply (part8 c _ _ _ _ _ _ _ _ _ _) $$ H1; iintro H1
  iapply (part9 m K c _ _ _ rfl) $$ HR HL H1 Hr10 HO Hf0 Has00; iintro ⟨Hf1, HO, H0, Hzs00⟩
  iapply (part10 m K c _) $$ HR HL HO Hc00 Har00 H0 Hr01; iintro ⟨HO, Hg00, Hzr00, Hf0⟩
  iapply (part11 m K c _ _) $$ HR HL HO Hf1 Has10 Hc10 Har10; iintro ⟨HO, H1, Hzs10, Hg10, Hzr10⟩
  iapply (part12 m K c _) $$ HR HL HO Hr11 H1 Hf0 Has01 Hc01 Har01; iintro ⟨HO, Hf1, H0, Hzs01, Hg01, Hzr01⟩
  iapply (part13 m K c _ _ rfl) $$ HR HL HO H0 Hr02 Hf1 Has11; iintro ⟨HO, Hf0, H1, Hzs11⟩
  iapply (part14 m K c _) $$ HR HL HO Hc11 Har11 H1 Hr12; iintro ⟨HO, Hg11, Hzr11, Hf1⟩
  iapply (part15 m K c _ _) $$ HR HL HO Hf0 Has02 Hc02 Har02; iintro ⟨HO, H0, Hzs02, Hg02, Hzr02⟩
  iapply (part16 m K c _) $$ HR HL HO Hr03 H0 Hf1 Has12 Hc12 Har12; iintro ⟨HO, Hf0, H1, Hzs12, Hg12, Hzr12⟩
  iapply (part17 m K c _ _ rfl) $$ HR HL HO H1 Hr13 Hf0 Has03; iintro ⟨HO, Hf1, H0, Hzs03⟩
  iapply (part18 m K c _) $$ HR HL HO Hc03 Har03 H0 Hr04; iintro ⟨HO, Hg03, Hzr03, Hf0⟩
  iapply (part19 m K c _ _) $$ HR HL HO Hf1 Has13 Hc13 Har13; iintro ⟨HO, H1, Hzs13, Hg13, Hzr13⟩
  iapply (part20 m K c _) $$ HR HL HO Hr14 H1 Hf0 Has04 Hc04 Har04; iintro ⟨HO, Hf1, H0, Hzs04, Hg04, Hzr04⟩
  iapply (part21 m K c _) $$ HR HL HO Hf1 Has14 Hc14 Har14 H0; iintro ⟨HO, Hzs14, Hg14, Hzr14, HA⟩
  simp only [Prog.lift, Prog.bind_op, Prog.bind_ret, Prog.pure_eq_ret]
  unfold staged
  icases HS with ⟨Hx, Hwq, Hwo, HK, HV⟩
  iapply (load_wo c (wost m c)) $$ Hwo; iintro Hwo
  unfold run
  rw [wp_ret, outv_eq m c]; imodintro
  iapply Hk
  isplitl [HO]; · iexact HO
  isplitl [HzB]; · iexact HzB
  isplitl [Hx Hwq Hwo HK HV]
  · isplitl [Hx]; · iexact Hx
    isplitl [Hwq]; · iexact Hwq
    isplitl [Hwo]; · iexact Hwo
    isplitl [HK] <;> iassumption
  isplitl [HA]; · iexact HA
  isplitl [Hg00 Hg10 Hg01 Hg11 Hg02 Hg12 Hg03 Hg13 Hg04 Hg14]
  · isplitl [Hg00]; · iapply (slot_any 0 0 c _); iexact Hg00
    isplitl [Hg10]; · iapply (slot_any 1 0 c _); iexact Hg10
    isplitl [Hg01]; · iapply (slot_any 0 1 c _); iexact Hg01
    isplitl [Hg11]; · iapply (slot_any 1 1 c _); iexact Hg11
    isplitl [Hg02]; · iapply (slot_any 0 2 c _); iexact Hg02
    isplitl [Hg12]; · iapply (slot_any 1 2 c _); iexact Hg12
    isplitl [Hg03]; · iapply (slot_any 0 3 c _); iexact Hg03
    isplitl [Hg13]; · iapply (slot_any 1 3 c _); iexact Hg13
    isplitl [Hg04]; · iapply (slot_any 0 4 c _); iexact Hg04
    iapply (slot_any 1 4 c _); iexact Hg14
  isplitl [Hzs00 Hzs10 Hzs01 Hzs11 Hzs02 Hzs12 Hzs03 Hzs13 Hzs04 Hzs14]
  · isplitl [Hzs00]; · iexact Hzs00
    isplitl [Hzs10]; · iexact Hzs10
    isplitl [Hzs01]; · iexact Hzs01
    isplitl [Hzs11]; · iexact Hzs11
    isplitl [Hzs02]; · iexact Hzs02
    isplitl [Hzs12]; · iexact Hzs12
    isplitl [Hzs03]; · iexact Hzs03
    isplitl [Hzs13]; · iexact Hzs13
    isplitl [Hzs04]; · iexact Hzs04
    iexact Hzs14
  isplitl [Hzr00]; · iexact Hzr00
  isplitl [Hzr10]; · iexact Hzr10
  isplitl [Hzr01]; · iexact Hzr01
  isplitl [Hzr11]; · iexact Hzr11
  isplitl [Hzr02]; · iexact Hzr02
  isplitl [Hzr12]; · iexact Hzr12
  isplitl [Hzr03]; · iexact Hzr03
  isplitl [Hzr13]; · iexact Hzr13
  isplitl [Hzr04]; · iexact Hzr04
  iexact Hzr14

theorem write_out (f w : (cc0_stg5_0 : Ref sig .tc).ty.Contents (Elt F)) :
    (oM.access (Rect.unit (s := S2x128x512) ![0, 0, 0] S2x128x512.size inb_S2x128x512_S2x128x512_0_0_0) : View sig .tc _ _ _).write (Elt F) f w Finset.univ = w :=
  Memref.write_access_unit_zero_univ (Elt F) cc0_stg5_0 hz3 _ f w

/-- The whole body. -/
theorem sound_body (c : Dev nD) (f : (cc0_stg5_0 : Ref sig .tc).ty.Contents (Elt F)) {Q : PUnit → sProp 𝕄} :
    records m K ⊢ iprop(levAts L lv -∗ owesX c (O₀ c) -∗ barIn c -∗ staged m c -∗ filling 0 c [] -∗ filling 1 c []
      -∗ all10 (fun st s => duty st s c) -∗ all10 (fun st s => waiting st s c) -∗ stg c cc0_stg5_0 f
      -∗ ((owesX c (owedL c []) ∗ semVal (barCell c) 0 ∗ staged m c ∗ stg c cc0_scratch0 (accEnd m c) ∗ all10 (fun st s => slotAny st s c)
            ∗ all10 (fun st s => semVal (sendCell st s c) 0) ∗ all10 (fun st s => semVal (recvCell st s c) 0) ∗ stg c cc0_stg5_0 (outv m c)) -∗ Q ⟨⟩)
      -∗ run c (cc0_body xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3) Q) := by
  rw [cc0_body_eq_skeleton]
  unfold cc0_body_skel
  unfold run
  rw [wp_bind]
  iintro #HR #HL HO Hbar HS H0 H1 Hd Hw Hout Hk
  iapply (part22 m K c) $$ HR HL HO Hbar HS H0 H1 Hd Hw; iintro ⟨HO, HzB, HS, HA, Hsl, Hzs, Hzr⟩
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM) (r := Rect.unit (s := S2x128x512) ![0, 0, 0] S2x128x512.size inb_S2x128x512_S2x128x512_0_0_0)
    (Mk := Finset.univ) (Finset.subset_univ _)) $$ Hout; iintro Hout
  rw [write_out, wp_ret]; imodintro
  iapply Hk
  isplitl [HO]; · iexact HO
  isplitl [HzB]; · iexact HzB
  isplitl [HS]; · iexact HS
  isplitl [HA]; · iexact HA
  isplitl [Hsl]; · iexact Hsl
  isplitl [Hzs]; · iexact Hzs
  isplitl [Hzr] <;> iassumption

end Cert.KernelRun

end
-- ==== Proof.Point.lean ====
/-
# The one grid point

What a device starts from and what it leaves, the pipeline's data over it, and the obligation of the pipeline's one point, from
the body's specification.
-/
module

public import proofs.«01_k».proof.Proof.Body
public import proofs.«01_k».proof.Proof.Gen.KernelIdeal.Points

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

variable (ρ : Dev nD → PrngReg)

/-- The state at launch. -/
abbrev s₀ : MemSt nD τ sig (Elt F) := ⟨m, fun _ => 0, ρ⟩

/-- A device's positions at the start, and the duties it fills. -/
def linear (c : Dev nD) : sProp 𝕄 :=
  iprop(atPos ER (barCell c) 0 ∅ 0
    ∗ (bigSep Finset.univ fun q : Fin 2 × Fin 5 => iprop(atPos ER (sendCell q.1 q.2 c) 0 ∅ 0 ∗ atPos ER (recvCell q.1 q.2 c) 0 ∅ 0))
    ∗ (bigSep Finset.univ fun s : Fin 5 => dutyTok ER (barCell (peer s c)) 0 s)
    ∗ bigSep Finset.univ fun q : Fin 2 × Fin 5 => duty q.1 q.2 c)

def G' (c : Dev nD) : sProp 𝕄 := iprop(∃ K, records m K ∗ linear c)

/-- What a device starts from. -/
def start (c : Dev nD) : sProp 𝕄 :=
  iprop(G' m c ∗ cred (tallyAt (barCell c) () 5)
    ∗ (bigSep Finset.univ fun q : Fin 2 × Fin 5 => cred (tallyAt (recvCell q.1 q.2 c) () N)) ∗ levAts L lv)

def Φ₀ (c : Dev nD) : sProp 𝕄 := iprop(start m c ∗ (∃ f, stg c cc0_scratch0 f) ∗ (∃ f, stg c cc0_scratch1 f))
def Φ₁ (c : Dev nD) : sProp 𝕄 :=
  iprop(semVal (barCell c) 0 ∗ ((bigSep Finset.univ fun q : Fin 2 × Fin 5 => semVal (sendCell q.1 q.2 c) 0)
    ∗ bigSep Finset.univ fun q : Fin 2 × Fin 5 => semVal (recvCell q.1 q.2 c) 0)
    ∗ (∃ f : (cc0_scratch0 : Ref sig .tc).ty.Contents (Elt F), stg c cc0_scratch0 f) ∗ (∃ f : (cc0_scratch1 : Ref sig .tc).ty.Contents (Elt F), stg c cc0_scratch1 f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => kst m c
    | ⟨4, _⟩ => vst m c
    | ⟨5, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`, as the pipeline hands it over. -/
def got (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
theorem got_eq (c : Dev nD) (b : Ref sig .tc) (X : b.ty.Contents (Elt F)) : got c b X ⊢ stg c b X := by
  unfold got; iintro ⟨%f, %hf, H⟩; subst hf; iexact H
omit [FloatOps F] in
theorem got_intro (c : Dev nD) (b : Ref sig .tc) (X : b.ty.Contents (Elt F)) : stg c b X ⊢ got c b X := by
  unfold got; iintro H; iexists X; isplitr; · (ipureintro; rfl)
  iexact H

def bodyPre (c : Dev nD) : sProp 𝕄 :=
  iprop(Φ₀ m c ∗ (dats m ρ 0 c).owesAt () t0_0.castSucc
    ∗ (∃ d, got c cc0_stg0_0 ((dats m ρ 0 c).before (0 : Fin 6) t0_0 d)) ∗ (∃ d, got c cc0_stg1_0 ((dats m ρ 0 c).before (1 : Fin 6) t0_0 d))
    ∗ (∃ d, got c cc0_stg2_0 ((dats m ρ 0 c).before (2 : Fin 6) t0_0 d)) ∗ (∃ d, got c cc0_stg3_0 ((dats m ρ 0 c).before (3 : Fin 6) t0_0 d))
    ∗ (∃ d, got c cc0_stg4_0 ((dats m ρ 0 c).before (4 : Fin 6) t0_0 d)) ∗ (∃ d, got c cc0_stg5_0 ((dats m ρ 0 c).before (5 : Fin 6) t0_0 d)))

def bodyPost (c : Dev nD) : sProp 𝕄 :=
  iprop(Φ₁ c ∗ (dats m ρ 0 c).owesAt () t0_0.succ ∗ got c cc0_stg0_0 (xst m c) ∗ got c cc0_stg1_0 (wqst m c) ∗ got c cc0_stg2_0 (wost m c)
    ∗ got c cc0_stg3_0 (kst m c) ∗ got c cc0_stg4_0 (vst m c) ∗ got c cc0_stg5_0 (outv m c))

theorem before_0 (c : Dev nD) (d) : (dats m ρ 0 c).before (0 : Fin 6) t0_0 d = xst m c := by unfold Dat.before; rw [if_pos (fetch0_0 t0_0)]; rfl
theorem before_1 (c : Dev nD) (d) : (dats m ρ 0 c).before (1 : Fin 6) t0_0 d = wqst m c := by unfold Dat.before; rw [if_pos (fetch0_1 t0_0)]; rfl
theorem before_2 (c : Dev nD) (d) : (dats m ρ 0 c).before (2 : Fin 6) t0_0 d = wost m c := by unfold Dat.before; rw [if_pos (fetch0_2 t0_0)]; rfl
theorem before_3 (c : Dev nD) (d) : (dats m ρ 0 c).before (3 : Fin 6) t0_0 d = kst m c := by unfold Dat.before; rw [if_pos (fetch0_3 t0_0)]; rfl
theorem before_4 (c : Dev nD) (d) : (dats m ρ 0 c).before (4 : Fin 6) t0_0 d = vst m c := by unfold Dat.before; rw [if_pos (fetch0_4 t0_0)]; rfl

theorem owes_in (c : Dev nD) : (dats m ρ 0 c).owesAt () t0_0.castSucc ⊢ owesX c (O₀ c) := by
  unfold Dat.owesAt Pipeline.owesWithin owesX
  rw [show (dats m ρ 0 c).owed t0_0.castSucc = O₀ c from rfl]
  iintro ⟨%W, %hW, HO⟩; iexists W; iexact HO
theorem owes_out (c : Dev nD) : owesX c (owedL c []) ⊢ (dats m ρ 0 c).owesAt () t0_0.succ := by
  unfold Dat.owesAt Pipeline.owesWithin owesX
  rw [show (dats m ρ 0 c).owed t0_0.succ = owedL c [] from rfl]
  iintro ⟨%W, HO⟩; iexists W; isplitr; · (ipureintro; exact fun _ _ => Or.inl trivial)
  iexact HO

/-- The landing slots and the tokens of the barrier signals, step by step. -/
theorem barIn_intro (c : Dev nD) :
    (iprop((bigSep Finset.univ fun s : Fin 5 => dutyTok ER (barCell (peer s c)) 0 s) ∗ (bigSep Finset.univ fun b : Fin 2 × Fin 5 => slotAny b.1 b.2 c)
      ∗ cred (tallyAt (barCell c) () 5) ∗ atPos ER (barCell c) 0 ∅ 0) : sProp 𝕄) ⊢ barIn c := by
  rw [all10_eq, all5_eq]
  unfold all10 barIn
  iintro ⟨⟨T0, T1, T2, T3, T4⟩, ⟨A0, B0, A1, B1, A2, B2, A3, B3, A4, B4⟩, HC, HA⟩
  isplitl [T0 A0 B0]
  · isplitl [T0]; · iexact T0
    isplitl [A0] <;> iassumption
  isplitl [T1 A1 B1]
  · isplitl [T1]; · iexact T1
    isplitl [A1] <;> iassumption
  isplitl [T2 A2 B2]
  · isplitl [T2]; · iexact T2
    isplitl [A2] <;> iassumption
  isplitl [T3 A3 B3]
  · isplitl [T3]; · iexact T3
    isplitl [A3] <;> iassumption
  isplitl [T4 A4 B4]
  · isplitl [T4]; · iexact T4
    isplitl [A4] <;> iassumption
  isplitl [HC] <;> iassumption

theorem waiting_intro (c : Dev nD) :
    (iprop((bigSep Finset.univ fun q : Fin 2 × Fin 5 => iprop(atPos ER (sendCell q.1 q.2 c) 0 ∅ 0 ∗ atPos ER (recvCell q.1 q.2 c) 0 ∅ 0))
      ∗ bigSep Finset.univ fun q : Fin 2 × Fin 5 => cred (tallyAt (recvCell q.1 q.2 c) () N)) : sProp 𝕄)
      ⊢ all10 (fun st s => waiting st s c) := by
  rw [← all10_eq (fun q : Fin 2 × Fin 5 => waiting q.1 q.2 c), ← bigSep_sep']
  refine bigSep_mono fun q _ => ?_
  show iprop((atPos ER (sendCell q.1 q.2 c) 0 ∅ 0 ∗ atPos ER (recvCell q.1 q.2 c) 0 ∅ 0) ∗ cred (tallyAt (recvCell q.1 q.2 c) () N)) ⊢ waiting q.1 q.2 c
  unfold waiting
  iintro ⟨⟨H1, H2⟩, H3⟩
  isplitl [H1]; · iexact H1
  isplitl [H2] <;> iassumption

theorem point (c : Dev nD) (Kt : PUnit → sProp 𝕄) :
    iprop(bodyPre m ρ c ∗ (bodyPost m ρ c -∗ Kt ⟨⟩))
      ⊢ run c (cc0_body xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3) Kt := by
  unfold bodyPre Φ₀ start G' linear
  simp only [before_0, before_1, before_2, before_3, before_4]
  iintro ⟨⟨⟨⟨⟨%K, #HR, HaB, HaQ, HtB, HtQ⟩, HcB, HcQ, #HL⟩, ⟨%fa, HA⟩, ⟨%fr, HS⟩⟩, HO, ⟨%d0, W0⟩, ⟨%d1, W1⟩, ⟨%d2, W2⟩, ⟨%d3, W3⟩, ⟨%d4, W4⟩, ⟨%d5, W5⟩⟩, Hk⟩
  ihave HO := (owes_in m ρ c) $$ HO
  ihave HA := (acc_split c fa) $$ HA
  icases HA with ⟨H0, H1⟩
  ihave HS := (slots_split c fr) $$ HS
  icases HS with ⟨HS, Hrest⟩
  ihave Hbar := (barIn_intro c) $$ [HtB HS HcB HaB]
  · isplitl [HtB]; · iexact HtB
    isplitl [HS]; · iexact HS
    isplitl [HcB] <;> iassumption
  ihave Hw := (waiting_intro c) $$ [HaQ HcQ]
  · isplitl [HaQ] <;> iassumption
  ihave Hd := (Entails.of_eq (all10_eq fun q : Fin 2 × Fin 5 => duty q.1 q.2 c)) $$ HtQ
  ihave W0 := (got_eq c cc0_stg0_0 _) $$ W0
  ihave W1 := (got_eq c cc0_stg1_0 _) $$ W1
  ihave W2 := (got_eq c cc0_stg2_0 _) $$ W2
  ihave W3 := (got_eq c cc0_stg3_0 _) $$ W3
  ihave W4 := (got_eq c cc0_stg4_0 _) $$ W4
  ihave W5 := (got_eq c cc0_stg5_0 _) $$ W5
  ihave Hst := (show iprop(stg c cc0_stg0_0 (xst m c) ∗ stg c cc0_stg1_0 (wqst m c) ∗ stg c cc0_stg2_0 (wost m c) ∗ stg c cc0_stg3_0 (kst m c) ∗ stg c cc0_stg4_0 (vst m c)) ⊢ staged m c from
    Entails.of_eq (by unfold staged; rfl)) $$ [W0 W1 W2 W3 W4]
  · isplitl [W0]; · iexact W0
    isplitl [W1]; · iexact W1
    isplitl [W2]; · iexact W2
    isplitl [W3] <;> iassumption
  iapply (sound_body m K c ((dats m ρ 0 c).before (5 : Fin 6) t0_0 d5)) $$ HR HL HO Hbar Hst H0 H1 Hd Hw W5
  iintro ⟨HO, HzB, Hst, HA, HS, Hzs, Hzr, W5⟩
  iapply Hk
  unfold bodyPost Φ₁ staged
  icases Hst with ⟨W0, W1, W2, W3, W4⟩
  isplitl [HzB Hzs Hzr HA HS Hrest]
  · isplitl [HzB]; · iexact HzB
    isplitl [Hzs Hzr]
    · isplitl [Hzs]
      · iapply (Entails.of_eq (all10_eq fun q : Fin 2 × Fin 5 => semVal (sendCell q.1 q.2 c) 0).symm); iexact Hzs
      · iapply (Entails.of_eq (all10_eq fun q : Fin 2 × Fin 5 => semVal (recvCell q.1 q.2 c) 0).symm); iexact Hzr
    isplitl [HA]; · iexists (accEnd m c); iexact HA
    iapply (slots_join c fr)
    isplitl [HS]
    · iapply (Entails.of_eq (all10_eq fun q : Fin 2 × Fin 5 => slotAny q.1 q.2 c).symm); iexact HS
    · iexact Hrest
  isplitl [HO]; · iapply (owes_out m ρ c); iexact HO
  isplitl [W0]; · iapply (got_intro c cc0_stg0_0 _); iexact W0
  isplitl [W1]; · iapply (got_intro c cc0_stg1_0 _); iexact W1
  isplitl [W2]; · iapply (got_intro c cc0_stg2_0 _); iexact W2
  isplitl [W3]; · iapply (got_intro c cc0_stg3_0 _); iexact W3
  isplitl [W4]; · iapply (got_intro c cc0_stg4_0 _); iexact W4
  iapply (got_intro c cc0_stg5_0 _); iexact W5

set_option maxRecDepth 40000 in
/-- The pipeline's obligation at its one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body xM (Memref.isWhole_whole _) wqM (Memref.isWhole_whole _) woM (Memref.isWhole_whole _) kM (Memref.isWhole_whole _)
      vM (Memref.isWhole_whole _) oM (Memref.isWhole_whole _) aM (Memref.isWhole_whole _) rM (Memref.isWhole_whole _) cc0_scratch2 cc0_scratch3) (fun _ => bodyPost m ρ c)
  refine BIBase.Entails.trans ?_ (point m ρ c fun _ => bodyPost m ρ c)
  iintro H
  isplitl [H]; · iexact H
  iintro H; iexact H

end Cert.KernelRun

end
-- ==== Proof.Launch.lean ====
/-
# The launch

The cells and tokens at launch, their invariants, the tokens dealt to the devices that use them, the credit, and the run of
the whole program.
-/
module

public import proofs.«01_k».proof.Proof.Point
public import Idealize.ShloMosaic.Lib.Pipeline.CollectiveSegs

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

variable (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duties of device `c`'s own cells: one per partner on the barrier, one on each other. -/
abbrev tokOf (cj : Dev nD × (Fin 5 ⊕ KO)) : GSem nD τ sig × ℕ × D := match cj.2 with
  | .inl s => (barCell cj.1, 0, s)
  | .inr k => (kcell (cj.1, some k), 0, 0)
theorem tokOf_injective : Function.Injective (tokOf : Dev nD × (Fin 5 ⊕ KO) → GSem nD τ sig × ℕ × D) := by
  rintro ⟨c, j⟩ ⟨c', j'⟩ h
  have h1 : c = c' := by
    have := congrArg (fun x : GSem nD τ sig × ℕ × D => x.1.1.1) h
    rcases j with s | k <;> rcases j' with s' | k' <;> exact this
  subst h1
  rcases j with s | k <;> rcases j' with s' | k'
  · have : s = s' := congrArg (fun x : GSem nD τ sig × ℕ × D => x.2.2) h
    rw [this]
  · have := csem_injective (a₁ := none) (a₂ := some k') (congrArg (fun x : GSem nD τ sig × ℕ × D => x.1.2) h)
    cases this
  · have := csem_injective (a₁ := some k) (a₂ := none) (congrArg (fun x : GSem nD τ sig × ℕ × D => x.1.2) h)
    cases this
  · have := csem_injective (a₁ := some k) (a₂ := some k') (congrArg (fun x : GSem nD τ sig × ℕ × D => x.1.2) h)
    rw [Option.some.inj this]
def theToks : Finset (GSem nD τ sig × ℕ × D) := Finset.univ.map ⟨tokOf, tokOf_injective⟩

def u₀ : UU :=
  (initOf (Pipeline.cells cfgs cellOf_inj) (Pipeline.launchToks cfgs cellOf_inj), initOf theCells theToks)

def toks (c : Dev nD) : sProp 𝕄 :=
  iprop((bigSep Finset.univ fun s : Fin 5 => dutyTok ER (barCell c) 0 s) ∗ bigSep Finset.univ fun k : KO => dutyTok ER (kcell (c, some k)) 0 0)

def G (c : Dev nD) : sProp 𝕄 :=
  iprop((bigSep Finset.univ fun k : KI => roundState ER (Rd m) (kcell (c, k)) 0)
    ∗ (bigSep Finset.univ fun k : KI => iprop(atPos ER (kcell (c, k)) 0 ∅ 0 ∗ reached ER (kcell (c, k)) 0)) ∗ toks c)

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : KI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
theorem ko_eq (Φ : KO → sProp 𝕄) : bigSep Finset.univ Φ
    = iprop((bigSep Finset.univ fun q : Fin 2 × Fin 5 => Φ (false, q)) ∗ bigSep Finset.univ fun q : Fin 2 × Fin 5 => Φ (true, q)) := by
  rw [bigSep_univ_prod, bigSep_univ_eq_bigSepL [false, true] (by decide) (by decide)]; rfl

omit [FloatOps F] in
/-- All of a device's cells: the barrier, then the send cells, then the receive cells. -/
theorem ki_eq (Φ : KI → sProp 𝕄) : bigSep Finset.univ Φ
    = iprop(Φ none ∗ (bigSep Finset.univ fun q : Fin 2 × Fin 5 => Φ (some (false, q))) ∗ bigSep Finset.univ fun q : Fin 2 × Fin 5 => Φ (some (true, q))) := by
  rw [bigSep_univ_at Φ none, show (Finset.univ.erase none : Finset KI) = Finset.univ.map Function.Embedding.some from by decide, bigSep_map, ko_eq]
  rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun q : Fin 2 × Fin 5 => semVal (sendCell q.1 q.2 c) 0) ∗ bigSep Finset.univ fun q : Fin 2 × Fin 5 => semVal (recvCell q.1 q.2 c) 0) := by
  unfold Pipeline.ownSems0; rw [ko_eq]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, ki_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens at the devices that fill them -/

def payToks (c : Dev nD) : sProp 𝕄 :=
  iprop((bigSep Finset.univ fun s : Fin 5 => dutyTok ER (barCell (peer s c)) 0 s) ∗ bigSep Finset.univ fun q : Fin 2 × Fin 5 => duty q.1 q.2 c)

omit [FloatOps F] in
/-- A family over devices and steps, dealt to the partner of the step instead. -/
theorem around {I : Type} [Fintype I] (j : I → Fin 5) (Φ : I → Dev nD → sProp 𝕄) :
    (bigSep Finset.univ fun c : Dev nD => bigSep Finset.univ fun i : I => Φ i c)
      = bigSep Finset.univ fun c : Dev nD => bigSep Finset.univ fun i : I => Φ i (peer (j i) c) := by
  rw [bigSep_univ_comm, bigSep_univ_comm (fun (c : Dev nD) (i : I) => Φ i (peer (j i) c))]
  exact bigSep_congr fun i _ => bigSep_univ_equiv (peerEquiv (j i)) (Φ i)

omit [FloatOps F] in
theorem toks_around : (bigSep Finset.univ fun c : Dev nD => (toks c : sProp 𝕄)) ⊢ bigSep Finset.univ fun c : Dev nD => payToks c := by
  unfold toks payToks duty
  simp only [ko_eq, bigSep_sep']
  rw [around (fun s => s) (fun (s : Fin 5) (c : Dev nD) => (dutyTok ER (barCell c) 0 s : sProp 𝕄)),
    around (fun q : Fin 2 × Fin 5 => q.2) (fun (q : Fin 2 × Fin 5) (c : Dev nD) => (dutyTok ER (kcell (c, some (true, q))) 0 0 : sProp 𝕄))]
  iintro ⟨H1, H2, H3⟩
  isplitl [H1]; · iexact H1
  isplitl [H2]; · iexact H2
  iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    (iprop((bigSep Finset.univ fun k : KI => atPos ER (kcell (c, k)) 0 ∅ 0) ∗ payToks c) : sProp 𝕄) ⊢ linear c := by
  unfold linear payToks
  rw [ki_eq, bigSep_sep']
  iintro ⟨⟨HB, HS, HV⟩, H1, H2⟩
  isplitl [HB]; · iexact HB
  isplitl [HS HV]
  · isplitl [HS]; · iexact HS
    iexact HV
  isplitl [H1] <;> iassumption

theorem ghost_intro (c : Dev nD) : iprop(records m K ∗ linear c) ⊢ G' m c := by
  unfold G'
  iintro ⟨HR, HL⟩
  iexists K
  isplitl [HR] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (Rd m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : KI => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_ne_recv (a b : Dev nD) (st : Fin 2) (s : Fin 5) : barCell a ≠ recvCell st s b := fun h => by cases congrArg Prod.snd h
theorem bar_eq_iff {a b : Dev nD} : Iff (barCell a = barCell b) (a = b) :=
  ⟨fun h => congrArg (fun g : GSem nD τ sig => g.1.1) h, fun h => h ▸ rfl⟩
theorem recv_eq_iff {a b : Dev nD} {p q : Fin 2 × Fin 5} : Iff (recvCell p.1 p.2 a = recvCell q.1 q.2 b) (a = b ∧ p = q) := by
  refine ⟨fun h => ?_, fun ⟨h, h'⟩ => h ▸ h' ▸ rfl⟩
  have := kcell_injective (a₁ := (a, some (true, p))) (a₂ := (b, some (true, q))) h
  exact ⟨congrArg Prod.fst this, by have := Option.some.inj (congrArg Prod.snd this); exact congrArg Prod.snd this⟩
theorem peer_eq_iff {s : Fin 5} {a b : Dev nD} : Iff (a = peer s b) (b = peer s a) :=
  ⟨fun h => by rw [h, peer_peer], fun h => by rw [h, peer_peer]⟩

theorem owedL_bar (d c : Dev nD) : ∀ l, owedL d l (barCell c) () = 0
  | [] => rfl
  | q :: l => by
    unfold owedL
    rw [Pi.add_apply, Finsupp.add_apply, owedL_bar d c l, tallyAt_ne_cell (bar_ne_recv _ _ _ _), Finsupp.zero_apply, Nat.add_zero]

theorem owedL_recv (d c : Dev nD) (q : Fin 2 × Fin 5) :
    ∀ l, owedL d l (recvCell q.1 q.2 c) () = if d = peer q.2 c then N * l.count q else 0
  | [] => by rw [List.count_nil, Nat.mul_zero, ite_self]; rfl
  | p :: l => by
    unfold owedL
    rw [Pi.add_apply, Finsupp.add_apply, owedL_recv d c q l, tallyAt_apply, List.count_cons]
    by_cases hp : p = q
    · subst hp
      by_cases hd : d = peer p.2 c
      · rw [if_pos hd, if_pos hd, if_pos ⟨by rw [peer_eq_iff.mp hd], rfl⟩, beq_self_eq_true, if_pos rfl, Nat.mul_add, Nat.mul_one]
      · rw [if_neg hd, if_neg hd, if_neg fun h => hd (peer_eq_iff.mpr (recv_eq_iff.mp h.1).1), Nat.zero_add]
    · rw [if_neg (c := _ ∧ _) fun h => hp (recv_eq_iff.mp h.1).2.symm, Nat.add_zero, if_neg (c := (p == q) = true) (by rw [beq_iff_eq]; exact hp), Nat.add_zero]

theorem owedB_recv (d c : Dev nD) (q : Fin 2 × Fin 5) :
    ∀ l, owedB d l (recvCell q.1 q.2 c) () = if d = peer q.2 c then N else 0
  | [] => by
    unfold owedB
    rw [owedL_recv, show allSends.count q = 1 from by revert q; decide, Nat.mul_one]
  | s :: l => by
    unfold owedB
    rw [Pi.add_apply, Finsupp.add_apply, owedB_recv d c q l, tallyAt_ne_cell (bar_ne_recv _ _ _ _).symm, Finsupp.zero_apply, Nat.add_zero]

theorem owedB_bar (d c : Dev nD) : ∀ l, owedB d l (barCell c) () = (l.map fun s => if d = peer s c then 1 else 0).sum
  | [] => by unfold owedB; rw [owedL_bar]; rfl
  | s :: l => by
    unfold owedB
    rw [Pi.add_apply, Finsupp.add_apply, owedB_bar d c l, tallyAt_apply, List.map_cons, List.sum_cons, Nat.add_comm]
    congr 1
    by_cases h : d = peer s c
    · rw [if_pos h, if_pos ⟨by rw [peer_eq_iff.mp h], rfl⟩]
    · rw [if_neg h, if_neg fun h' => h (peer_eq_iff.mpr (bar_eq_iff.mp h'.1))]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  have h (s : Fin 5) : (∑ d : Dev nD, if d = peer s c then 1 else 0) = 1 := by
    rw [Finset.sum_ite_eq' Finset.univ (peer s c) fun _ => 1, if_pos (Finset.mem_univ _)]
  unfold O₀
  rw [Finset.sum_congr rfl fun d _ => owedB_bar d c _]
  simp only [List.map_cons, List.map_nil, List.sum_cons, List.sum_nil, Finset.sum_add_distrib, h, Finset.sum_const_zero]
  rfl

theorem launch_recv (c : Dev nD) (q : Fin 2 × Fin 5) :
    tallyOn (recvCell q.1 q.2 c) (launchCredit (Pipeline.owing O₀) 0 (recvCell q.1 q.2 c)) = (tallyAt (recvCell q.1 q.2 c) () N : CellTallies nD τ sig Unit) := by
  unfold tallyAt; refine congrArg _ (Finsupp.ext fun u => ?_); cases u
  rw [Pipeline.launchCredit_owing, Finsupp.single_eq_same]
  unfold O₀
  rw [Finset.sum_congr rfl fun d _ => owedB_recv d c q _, Finset.sum_ite_eq' Finset.univ (peer q.2 c) fun _ => N, if_pos (Finset.mem_univ _)]

/-- The receive semaphores. -/
def recvEmb : (Fin 2 × Fin 5) ↪ SemLoc sig :=
  ⟨fun q => .dma (recvS q.1 q.2), fun p q h => by
    have := csem_injective (a₁ := some (true, p)) (a₂ := some (true, q)) h
    exact congrArg Prod.snd (Option.some.inj this)⟩

omit [FloatOps F] in
theorem creds (c : Dev nD) :
    (Pipeline.launchCred O₀ c : sProp 𝕄) ⊢ iprop(cred (tallyAt (barCell c) () 5)
      ∗ bigSep Finset.univ fun q : Fin 2 × Fin 5 => cred (tallyAt (recvCell q.1 q.2 c) () N)) := by
  unfold Pipeline.launchCred
  rw [bigSep_univ_at _ (SemLoc.reg barS), launch_bar]
  refine sep_mono_right ?_
  refine (bigSep_subset (t := Finset.univ.map recvEmb) fun sm h => ?_).trans ?_
  · obtain ⟨q, -, rfl⟩ := Finset.mem_map.mp h
    exact Finset.mem_erase.mpr ⟨recv_ne_bar _ _, Finset.mem_univ _⟩
  · rw [bigSep_map]
    exact bigSep_mono fun q _ => Entails.of_eq (congrArg cred (launch_recv c q))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨HzB, Hz, Hr⟩
  isplitl [HzB]; · iexact HzB
  isplitl [Hz]; · iexact Hz
  iexact Hr

theorem mayWait_stage (c : Dev nD) (sm : SemLoc sig) (hs : ∀ c : Dev nD, lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact mayWait_O₀ c sm (hs c)
  · rw [MayWait_zero]; iintro -; iempintro

theorem lv_stage (w : Fin cfg0.W) (s : Fin (cfg0.win w).nbuf) : decode (.dma ((cfg0.win w).sem s)) = none := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun c => by unfold lv; rw [lv_stage w s]) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every weakly fair execution on the 32 devices ends, with
    each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelRun

end
-- ==== Proof.Frames.lean ====
/-
# The frame claims

The arguments end as they began and every counter at zero: for the kernel's own program and for its idealization from the one
run over any float values, for the reference from its generated run.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KI → ℕ)

variable (ρ : Dev nD → PrngReg)

/-- An input array after the run holds what it held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

theorem inputs_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

theorem run_kept : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run (defs (F := F)) _ _).mono (fun r h => ⟨fun c => inputs_kept m ρ r h.1 c, h.2⟩) (run_main m ρ)

theorem frame_ideal : Cert.quiescent_KernelIdeal := fun m ρ _ => run_kept (F := Ideal) m ρ
theorem defs₀_eq : Cert.Kernel.defs₀ (F := Bits) = Cert.KernelIdeal.defs₀ (F := Bits) := by
  unfold Cert.Kernel.defs₀ Cert.KernelIdeal.defs₀
  refine congrArg Defs.onTc (funext fun l => ?_)
  obtain ⟨_ | n, hl⟩ := l
  · rfl
  · exact absurd hl (Nat.not_lt.2 (Nat.le_add_left _ _))
theorem defs_eq : Cert.Kernel.defs (F := Bits) = Cert.KernelIdeal.defs (F := Bits) :=
  congrArg (Pipeline.defs (Cert.KernelIdeal.pcfgs (F := Bits))) defs₀_eq

/-- The kernel's own program is the same text. -/
theorem frame_kernel : Cert.quiescent_Kernel := fun m ρ _ =>
  (congrArg (fun d => θ_run d (onTc (τ := τ) (main (F := Bits))) (s₀ (F := Bits) m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0)) defs_eq).mpr
    (run_kept (F := Bits) m ρ)

/-- The reference has no semaphore; its arguments end unchanged. -/
theorem frame_reference : Cert.quiescent_ReferenceIdeal := fun m ρ _ =>
  (θ_run (Cert.ReferenceIdeal.defs (F := Ideal)) _ _).mono
    (fun r h => ⟨fun c => (h c).2, sem_eq_zero_of_no_sems rfl r.2⟩)
    (Cert.ReferenceIdeal.Value.run (F := Ideal) m ρ)

end Cert.KernelRun

end
-- ==== Proof.ValuePart.lean ====
/-
# What a device contributes, element by element

Over the extended reals. A device holds 128 rows of keys and values per batch. Its contribution to the sum over the devices
is, for head `h` and query row `i`: in column `64 h + d` the row of exponentials times the values (`num`), and in column
`512 + h` the sum of the exponentials (`den`).
-/
module

public import proofs.«01_k».proof.Proof.Contents
public import Idealize.ShloMosaic.Lib.Pointwise

@[expose] public section

set_option maxRecDepth 16384

noncomputable section

namespace Cert.KernelRun

open Cert.KernelIdeal Cert.KernelIdeal.Gen
open Idealize.ShloMosaic

/-! ## The formulas -/

/-- Row `i` of batch `b` among the query rows of both batches, -/
def row (b : Fin 2) (i : Fin 128) : Fin 256 := ⟨128 * b.val + i.val, by omega⟩
/-- and column `d` of head `h` among the columns of all heads. -/
def col (h : Fin 8) (d : Fin 64) : Fin 512 := ⟨64 * h.val + d.val, by omega⟩

theorem row_zero (i : Fin 128) : row 0 i = ⟨i.val, by omega⟩ := Fin.ext (Nat.zero_add _)
theorem col_zero (d : Fin 64) : col 0 d = ⟨d.val, by omega⟩ := Fin.ext (Nat.zero_add _)

section

variable (q : FVec Ideal S256x512 .bf16) (k v : FVec Ideal S128x512 .bf16)

/-- The score of query row `i` against key row `j`, -/
def score (b : Fin 2) (h : Fin 8) (i j : Fin 128) : EReal :=
  (∑ d : Fin 64, q (ix2 (row b i) (col h d)) * k (ix2 j (col h d))) * Ideal.ofBits .f32 0x3E000000#32
/-- the exponentials times the values, -/
def num (b : Fin 2) (h : Fin 8) (i : Fin 128) (d : Fin 64) : EReal := ∑ j : Fin 128, Ideal.exp (score q k b h i j) * v (ix2 j (col h d))
/-- and the sum of the exponentials. -/
def den (b : Fin 2) (h : Fin 8) (i : Fin 128) : EReal := ∑ j : Fin 128, Ideal.exp (score q k b h i j)

end

/-! ## The stored values -/

section

variable (x : (cc0_stg0_0 : Ref sig .tc).ty.Contents (Elt Ideal)) (wq : (cc0_stg1_0 : Ref sig .tc).ty.Contents (Elt Ideal))
  (k v : (cc0_stg3_0 : Ref sig .tc).ty.Contents (Elt Ideal))

theorem num_0_0 (i : Fin 128) (d : Fin 64) : k0_pay8 (v21 x) (v23 wq) (v26 k) (v29 v) (ix2 i d) = num (v25 x wq) (v28 k) (v31 v) 0 0 i d := by
  simp only [num, score, row_zero, col_zero]
  pointwise [k0_pay8, k0_pay6]
  rfl

theorem num_0_1 (i : Fin 128) (d : Fin 64) : k0_pay11 (v21 x) (v23 wq) (v26 k) (v29 v) (ix2 i d) = num (v25 x wq) (v28 k) (v31 v) 0 1 i d := by
  simp only [num, score, row_zero, col_zero]
  pointwise [k0_pay11, k0_pay9]
  rfl

theorem num_0_2 (i : Fin 128) (d : Fin 64) : k0_pay14 (v25 x wq) (v28 k) (v31 v) (ix2 i d) = num (v25 x wq) (v28 k) (v31 v) 0 2 i d := by
  simp only [num, score, row_zero, col_zero]
  pointwise [k0_pay14, k0_pay12]
  rfl

theorem num_0_3 (i : Fin 128) (d : Fin 64) : k0_pay17 (v25 x wq) (v28 k) (v31 v) (ix2 i d) = num (v25 x wq) (v28 k) (v31 v) 0 3 i d := by
  simp only [num, score, row_zero, col_zero]
  pointwise [k0_pay17, k0_pay15]
  rfl

theorem num_0_4 (i : Fin 128) (d : Fin 64) : k0_pay21 (k0_pay20 (v25 x wq) (v28 k) (v31 v)) (ix2 i d) = num (v25 x wq) (v28 k) (v31 v) 0 4 i d := by
  simp only [num, score, row_zero, col_zero]
  pointwise [k0_pay21, k0_pay20, k0_pay18]
  rfl

theorem num_0_5 (i : Fin 128) (d : Fin 64) : k0_pay24 (v25 x wq) (v28 k) (v31 v) (ix2 i d) = num (v25 x wq) (v28 k) (v31 v) 0 5 i d := by
  simp only [num, score, row_zero, col_zero]
  pointwise [k0_pay24, k0_pay22]
  rfl

theorem num_0_6 (i : Fin 128) (d : Fin 64) : k0_pay27 (v25 x wq) (v28 k) (v31 v) (ix2 i d) = num (v25 x wq) (v28 k) (v31 v) 0 6 i d := by
  simp only [num, score, row_zero, col_zero]
  pointwise [k0_pay27, k0_pay25]
  rfl

theorem num_0_7 (i : Fin 128) (d : Fin 64) : k0_pay29 (v31 v) (k0_pay28 (v25 x wq) (v28 k)) (ix2 i d) = num (v25 x wq) (v28 k) (v31 v) 0 7 i d := by
  simp only [num, score, row_zero, col_zero]
  pointwise [k0_pay29, k0_pay28]
  rfl

theorem den_0_0 (i : Fin 128) : k0_pay7 (v21 x) (v23 wq) (v26 k) (ix2 i 0) = den (v25 x wq) (v28 k) 0 0 i := by
  simp only [den, score, row_zero, col_zero]
  pointwise [k0_pay7, k0_pay6]
  rfl

theorem den_0_1 (i : Fin 128) : k0_pay10 (v21 x) (v23 wq) (v26 k) (ix2 i 0) = den (v25 x wq) (v28 k) 0 1 i := by
  simp only [den, score, row_zero, col_zero]
  pointwise [k0_pay10, k0_pay9]
  rfl

theorem den_0_2 (i : Fin 128) : k0_pay13 (v25 x wq) (v28 k) (ix2 i 0) = den (v25 x wq) (v28 k) 0 2 i := by
  simp only [den, score, row_zero, col_zero]
  pointwise [k0_pay13, k0_pay12]
  rfl

theorem den_0_3 (i : Fin 128) : k0_pay16 (v25 x wq) (v28 k) (ix2 i 0) = den (v25 x wq) (v28 k) 0 3 i := by
  simp only [den, score, row_zero, col_zero]
  pointwise [k0_pay16, k0_pay15]
  rfl

theorem den_0_4 (i : Fin 128) : k0_pay19 (v25 x wq) (v28 k) (ix2 i 0) = den (v25 x wq) (v28 k) 0 4 i := by
  simp only [den, score, row_zero, col_zero]
  pointwise [k0_pay19, k0_pay18]
  rfl

theorem den_0_5 (i : Fin 128) : k0_pay23 (v25 x wq) (v28 k) (ix2 i 0) = den (v25 x wq) (v28 k) 0 5 i := by
  simp only [den, score, row_zero, col_zero]
  pointwise [k0_pay23, k0_pay22]
  rfl

theorem den_0_6 (i : Fin 128) : k0_pay26 (v25 x wq) (v28 k) (ix2 i 0) = den (v25 x wq) (v28 k) 0 6 i := by
  simp only [den, score, row_zero, col_zero]
  pointwise [k0_pay26, k0_pay25]
  rfl

theorem num_1_0 (i : Fin 128) (d : Fin 64) : k0_pay36 (v25 x wq) (v170 k) (v172 v) (ix2 i d) = num (v25 x wq) (v170 k) (v173 v) 1 0 i d := by
  simp only [num, score, row_zero, col_zero]
  pointwise [k0_pay36, k0_pay34]
  rfl

theorem num_1_1 (i : Fin 128) (d : Fin 64) : k0_pay39 (v25 x wq) (v170 k) (v172 v) (ix2 i d) = num (v25 x wq) (v170 k) (v173 v) 1 1 i d := by
  simp only [num, score, row_zero, col_zero]
  pointwise [k0_pay39, k0_pay37]
  rfl

theorem num_1_2 (i : Fin 128) (d : Fin 64) : k0_pay43 (k0_pay42 (v25 x wq) (v170 k) (v172 v)) (ix2 i d) = num (v25 x wq) (v170 k) (v173 v) 1 2 i d := by
  simp only [num, score, row_zero, col_zero]
  pointwise [k0_pay43, k0_pay42, k0_pay40]
  rfl

theorem num_1_3 (i : Fin 128) (d : Fin 64) : k0_pay46 (v25 x wq) (v170 k) (v173 v) (ix2 i d) = num (v25 x wq) (v170 k) (v173 v) 1 3 i d := by
  simp only [num, score, row_zero, col_zero]
  pointwise [k0_pay46, k0_pay44]
  rfl

theorem num_1_4 (i : Fin 128) (d : Fin 64) : k0_pay49 (v25 x wq) (v170 k) (v173 v) (ix2 i d) = num (v25 x wq) (v170 k) (v173 v) 1 4 i d := by
  simp only [num, score, row_zero, col_zero]
  pointwise [k0_pay49, k0_pay47]
  rfl

theorem num_1_5 (i : Fin 128) (d : Fin 64) : k0_pay51 (v173 v) (k0_pay50 (v25 x wq) (v170 k)) (ix2 i d) = num (v25 x wq) (v170 k) (v173 v) 1 5 i d := by
  simp only [num, score, row_zero, col_zero]
  pointwise [k0_pay51, k0_pay50]
  rfl

theorem num_1_6 (i : Fin 128) (d : Fin 64) : k0_pay53 (v25 x wq) (v170 k) (v173 v) (ix2 i d) = num (v25 x wq) (v170 k) (v173 v) 1 6 i d := by
  simp only [num, score, row_zero, col_zero]
  pointwise [k0_pay53, k0_pay52]
  rfl

theorem num_1_7 (i : Fin 128) (d : Fin 64) : k0_pay55 (v25 x wq) (v170 k) (v173 v) (ix2 i d) = num (v25 x wq) (v170 k) (v173 v) 1 7 i d := by
  simp only [num, score, row_zero, col_zero]
  pointwise [k0_pay55, k0_pay54]
  rfl

theorem den_1_0 (i : Fin 128) : k0_pay35 (v25 x wq) (v170 k) (ix2 i 0) = den (v25 x wq) (v170 k) 1 0 i := by
  simp only [den, score, row_zero, col_zero]
  pointwise [k0_pay35, k0_pay34]
  rfl

theorem den_1_1 (i : Fin 128) : k0_pay38 (v25 x wq) (v170 k) (ix2 i 0) = den (v25 x wq) (v170 k) 1 1 i := by
  simp only [den, score, row_zero, col_zero]
  pointwise [k0_pay38, k0_pay37]
  rfl

theorem den_1_2 (i : Fin 128) : k0_pay41 (v25 x wq) (v170 k) (ix2 i 0) = den (v25 x wq) (v170 k) 1 2 i := by
  simp only [den, score, row_zero, col_zero]
  pointwise [k0_pay41, k0_pay40]
  rfl

theorem den_1_3 (i : Fin 128) : k0_pay45 (v25 x wq) (v170 k) (ix2 i 0) = den (v25 x wq) (v170 k) 1 3 i := by
  simp only [den, score, row_zero, col_zero]
  pointwise [k0_pay45, k0_pay44]
  rfl

theorem den_1_4 (i : Fin 128) : k0_pay48 (v25 x wq) (v170 k) (ix2 i 0) = den (v25 x wq) (v170 k) 1 4 i := by
  simp only [den, score, row_zero, col_zero]
  pointwise [k0_pay48, k0_pay47]
  rfl

theorem sum_0_0 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨0, by omega⟩ : Fin 128)) = den (v25 x wq) (v28 k) 0 0 i := by
  rw [← den_0_0]
  pointwise [k0_pay30]

theorem sum_0_1 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨1, by omega⟩ : Fin 128)) = den (v25 x wq) (v28 k) 0 1 i := by
  rw [← den_0_1]
  pointwise [k0_pay30]

theorem sum_0_2 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨2, by omega⟩ : Fin 128)) = den (v25 x wq) (v28 k) 0 2 i := by
  rw [← den_0_2]
  pointwise [k0_pay30]

theorem sum_0_3 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨3, by omega⟩ : Fin 128)) = den (v25 x wq) (v28 k) 0 3 i := by
  rw [← den_0_3]
  pointwise [k0_pay30]

theorem sum_0_4 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨4, by omega⟩ : Fin 128)) = den (v25 x wq) (v28 k) 0 4 i := by
  rw [← den_0_4]
  pointwise [k0_pay30]

theorem sum_0_5 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨5, by omega⟩ : Fin 128)) = den (v25 x wq) (v28 k) 0 5 i := by
  rw [← den_0_5]
  pointwise [k0_pay30]

theorem sum_0_6 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨6, by omega⟩ : Fin 128)) = den (v25 x wq) (v28 k) 0 6 i := by
  rw [← den_0_6]
  pointwise [k0_pay30]

theorem sum_0_7 (i : Fin 128) : k0_pay30 (k0_pay7 (v21 x) (v23 wq) (v26 k)) (k0_pay10 (v21 x) (v23 wq) (v26 k)) (k0_pay13 (v25 x wq) (v28 k)) (k0_pay16 (v25 x wq) (v28 k)) (k0_pay19 (v25 x wq) (v28 k)) (k0_pay23 (v25 x wq) (v28 k)) (k0_pay26 (v25 x wq) (v28 k)) (k0_pay28 (v25 x wq) (v28 k)) (ix2 i (⟨7, by omega⟩ : Fin 128)) = den (v25 x wq) (v28 k) 0 7 i := by
  simp only [den, score, row_zero, col_zero]
  pointwise [k0_pay30, k0_pay28]
  rfl

theorem sum_1_0 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨0, by omega⟩ : Fin 128)) = den (v25 x wq) (v170 k) 1 0 i := by
  rw [← den_1_0]
  pointwise [k0_pay57, k0_pay56]

theorem sum_1_1 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨1, by omega⟩ : Fin 128)) = den (v25 x wq) (v170 k) 1 1 i := by
  rw [← den_1_1]
  pointwise [k0_pay57, k0_pay56]

theorem sum_1_2 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨2, by omega⟩ : Fin 128)) = den (v25 x wq) (v170 k) 1 2 i := by
  rw [← den_1_2]
  pointwise [k0_pay57, k0_pay56]

theorem sum_1_3 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨3, by omega⟩ : Fin 128)) = den (v25 x wq) (v170 k) 1 3 i := by
  rw [← den_1_3]
  pointwise [k0_pay57, k0_pay56]

theorem sum_1_4 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨4, by omega⟩ : Fin 128)) = den (v25 x wq) (v170 k) 1 4 i := by
  rw [← den_1_4]
  pointwise [k0_pay57, k0_pay56]

theorem sum_1_5 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨5, by omega⟩ : Fin 128)) = den (v25 x wq) (v170 k) 1 5 i := by
  simp only [den, score, row_zero, col_zero]
  pointwise [k0_pay57, k0_pay56, k0_pay50, k0_pay52, k0_pay54]
  rfl

theorem sum_1_6 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨6, by omega⟩ : Fin 128)) = den (v25 x wq) (v170 k) 1 6 i := by
  simp only [den, score, row_zero, col_zero]
  pointwise [k0_pay57, k0_pay56, k0_pay50, k0_pay52, k0_pay54]
  rfl

theorem sum_1_7 (i : Fin 128) : k0_pay57 (k0_pay56 (v25 x wq) (v170 k) (k0_pay35 (v25 x wq) (v170 k)) (k0_pay38 (v25 x wq) (v170 k)) (k0_pay41 (v25 x wq) (v170 k)) (k0_pay45 (v25 x wq) (v170 k)) (k0_pay48 (v25 x wq) (v170 k)) (k0_pay50 (v25 x wq) (v170 k))) (ix2 i (⟨7, by omega⟩ : Fin 128)) = den (v25 x wq) (v170 k) 1 7 i := by
  simp only [den, score, row_zero, col_zero]
  pointwise [k0_pay57, k0_pay56, k0_pay50, k0_pay52, k0_pay54]
  rfl

end

end Cert.KernelRun
-- ==== Proof.ValueFill.lean ====
/-
# A device's contribution, read at an element

The nine stores of a batch tile its 128 rows of the accumulator; this module reads the block they leave (`part`) at a column
of a head and at the column of a head's sum, in terms of the arrays the device holds.
-/
module

public import proofs.«01_k».proof.Proof.ValuePart
public import Idealize.ShloMosaic.Lib.WritesUnit

@[expose] public section

set_option maxRecDepth 16384

noncomputable section

namespace Cert.KernelRun

open Cert.KernelIdeal Cert.KernelIdeal.Gen
open Idealize.ShloMosaic

variable (x : FVec Ideal S2x128x512 .bf16) (wq : FVec Ideal S512x512 .bf16) (k v : FVec Ideal S2x128x8x64 .bf16)

/-! ## The formulas, over the arrays -/

/-- The query: row `i` of batch `b`, column `c`. -/
def qry (b : Fin 2) (i : Fin 128) (c : Fin 512) : EReal := ∑ e : Fin 512, x (ix3 b i e) * wq (ix2 e c)
/-- The score of query row `i` against the device's key row `j`, -/
def scoreA (b : Fin 2) (h : Fin 8) (i j : Fin 128) : EReal :=
  (∑ d : Fin 64, qry x wq b i (col h d) * k (ix4 b j h d)) * Ideal.ofBits .f32 0x3E000000#32
/-- the exponentials times the device's values, -/
def numA (b : Fin 2) (h : Fin 8) (i : Fin 128) (d : Fin 64) : EReal := ∑ j : Fin 128, Ideal.exp (scoreA x wq k b h i j) * v (ix4 b j h d)
/-- and the sum of the exponentials. -/
def denA (b : Fin 2) (h : Fin 8) (i : Fin 128) : EReal := ∑ j : Fin 128, Ideal.exp (scoreA x wq k b h i j)

theorem v25_apply (b : Fin 2) (i : Fin 128) (c : Fin 512) : v25 (F := Ideal) x wq (ix2 (row b i) c) = qry x wq b i c := by
  pointwise [v25, v21, v23, k0_pay1, k0_pay2, k0_pay3]
  have h1 : (⟨(row b i).val / 128, by have := (row b i).isLt; omega⟩ : Fin 2) = b := Fin.ext (by simp only [row]; omega)
  have h2 : (⟨(row b i).val % 128, by omega⟩ : Fin 128) = i := Fin.ext (by simp only [row]; omega)
  refine Finset.sum_congr rfl fun e _ => ?_
  exact congrArg₂ (fun p r => x (ix3 p r e) * wq (ix2 e c)) h1 h2

theorem v28_apply (j : Fin 128) (h : Fin 8) (d : Fin 64) : v28 (F := Ideal) k (ix2 j (col h d)) = k (ix4 0 j h d) := by
  have h0 : v28 (F := Ideal) k (ix2 j (col h d)) = v26 (F := Ideal) k (ix4 0 j h d) := by
    pointwise [v28, k0_pay4]
    have h1 : (⟨(col h d).val / 64, by have := (col h d).isLt; omega⟩ : Fin 8) = h := Fin.ext (by simp only [col]; omega)
    have h2 : (⟨(col h d).val % 64, by omega⟩ : Fin 64) = d := Fin.ext (by simp only [col]; omega)
    rw [h1, h2]
  rw [h0]
  show k _ = k _
  congr 1
  funext a
  match a with
  | ⟨0, _⟩ => exact Fin.ext (by rfl)
  | ⟨1, _⟩ => exact Fin.ext (by show 0 + 1 * j.val = j.val; omega)
  | ⟨2, _⟩ => exact Fin.ext (by show 0 + 1 * h.val = h.val; omega)
  | ⟨3, _⟩ => exact Fin.ext (by show 0 + 1 * d.val = d.val; omega)

theorem v31_apply (j : Fin 128) (h : Fin 8) (d : Fin 64) : v31 (F := Ideal) k (ix2 j (col h d)) = k (ix4 0 j h d) := by
  have h0 : v31 (F := Ideal) k (ix2 j (col h d)) = v29 (F := Ideal) k (ix4 0 j h d) := by
    pointwise [v31, k0_pay5]
    have h1 : (⟨(col h d).val / 64, by have := (col h d).isLt; omega⟩ : Fin 8) = h := Fin.ext (by simp only [col]; omega)
    have h2 : (⟨(col h d).val % 64, by omega⟩ : Fin 64) = d := Fin.ext (by simp only [col]; omega)
    rw [h1, h2]
  rw [h0]
  show k _ = k _
  congr 1
  funext a
  match a with
  | ⟨0, _⟩ => exact Fin.ext (by rfl)
  | ⟨1, _⟩ => exact Fin.ext (by show 0 + 1 * j.val = j.val; omega)
  | ⟨2, _⟩ => exact Fin.ext (by show 0 + 1 * h.val = h.val; omega)
  | ⟨3, _⟩ => exact Fin.ext (by show 0 + 1 * d.val = d.val; omega)

theorem v170_apply (j : Fin 128) (h : Fin 8) (d : Fin 64) : v170 (F := Ideal) k (ix2 j (col h d)) = k (ix4 1 j h d) := by
  have h0 : v170 (F := Ideal) k (ix2 j (col h d)) = v168 (F := Ideal) k (ix4 0 j h d) := by
    pointwise [v170, k0_pay31]
    have h1 : (⟨(col h d).val / 64, by have := (col h d).isLt; omega⟩ : Fin 8) = h := Fin.ext (by simp only [col]; omega)
    have h2 : (⟨(col h d).val % 64, by omega⟩ : Fin 64) = d := Fin.ext (by simp only [col]; omega)
    rw [h1, h2]
  rw [h0]
  show k _ = k _
  congr 1
  funext a
  match a with
  | ⟨0, _⟩ => exact Fin.ext (by rfl)
  | ⟨1, _⟩ => exact Fin.ext (by show 0 + 1 * j.val = j.val; omega)
  | ⟨2, _⟩ => exact Fin.ext (by show 0 + 1 * h.val = h.val; omega)
  | ⟨3, _⟩ => exact Fin.ext (by show 0 + 1 * d.val = d.val; omega)

theorem v173_apply (j : Fin 128) (h : Fin 8) (d : Fin 64) : v173 (F := Ideal) k (ix2 j (col h d)) = k (ix4 1 j h d) := by
  have h0 : v173 (F := Ideal) k (ix2 j (col h d)) = v171 (F := Ideal) k (ix4 0 j h d) := by
    pointwise [v173, v172, k0_pay32, k0_pay33]
    have h1 : (⟨(col h d).val / 64, by have := (col h d).isLt; omega⟩ : Fin 8) = h := Fin.ext (by simp only [col]; omega)
    have h2 : (⟨(col h d).val % 64, by omega⟩ : Fin 64) = d := Fin.ext (by simp only [col]; omega)
    rw [h1, h2]
  rw [h0]
  show k _ = k _
  congr 1
  funext a
  match a with
  | ⟨0, _⟩ => exact Fin.ext (by rfl)
  | ⟨1, _⟩ => exact Fin.ext (by show 0 + 1 * j.val = j.val; omega)
  | ⟨2, _⟩ => exact Fin.ext (by show 0 + 1 * h.val = h.val; omega)
  | ⟨3, _⟩ => exact Fin.ext (by show 0 + 1 * d.val = d.val; omega)

theorem num_zero (h : Fin 8) (i : Fin 128) (d : Fin 64) : num (v25 x wq) (v28 k) (v31 v) 0 h i d = numA x wq k v 0 h i d := by
  simp only [num, numA, score, scoreA, v25_apply, v28_apply, v31_apply]
theorem num_one (h : Fin 8) (i : Fin 128) (d : Fin 64) : num (v25 x wq) (v170 k) (v173 v) 1 h i d = numA x wq k v 1 h i d := by
  simp only [num, numA, score, scoreA, v25_apply, v170_apply, v173_apply]
theorem den_zero (h : Fin 8) (i : Fin 128) : den (v25 x wq) (v28 k) 0 h i = denA x wq k 0 h i := by
  simp only [den, denA, score, scoreA, v25_apply, v28_apply]
theorem den_one (h : Fin 8) (i : Fin 128) : den (v25 x wq) (v170 k) 1 h i = denA x wq k 1 h i := by
  simp only [den, denA, score, scoreA, v25_apply, v170_apply]

/-! ## The stores -/

/-- Column `64 h + d` of the block, -/
def ncol (h : Fin 8) (d : Fin 64) : Fin 640 := ⟨64 * h.val + d.val, by omega⟩
/-- and column `512 + h`. -/
def dcol (h : Fin 8) : Fin 640 := ⟨512 + h.val, by omega⟩

theorem pieces_zero : pieces (F := Ideal) x wq k v 0 = pieces0 x wq k v := by
  unfold pieces
  rfl
theorem pieces_one : pieces (F := Ideal) x wq k v 1 = pieces1 x wq k v := by
  unfold pieces
  rfl

/-- The block, as an array of extended reals. -/
def partI (b : Fin 2) : FVec Ideal S128x640 .bf16 := part (F := Ideal) x wq k v b

/-- The block's element `(i, c)` is the accumulator's element `(128 b + i, c)`. -/
theorem part_read (b : Fin 2) (i : Fin 128) (c : Fin 640) : partI x wq k v b (ix2 i c)
    = aM.view.read (Elt Ideal) (aM.view.writes (Elt Ideal) blank (pieces x wq k v b)) (ix2 (row b i) c) := by
  show aM.view.writes (Elt Ideal) blank (pieces x wq k v b) _ = aM.view.writes (Elt Ideal) blank (pieces x wq k v b) _
  congr 1
  funext a
  match a with
  | ⟨0, _⟩ => exact Fin.ext (by show 128 * b.val + 1 * i.val = 128 * b.val + i.val; omega)
  | ⟨1, _⟩ => exact Fin.ext (by show 0 + 1 * c.val = c.val; omega)

/-- The last store, read at its element `(i, d)`. -/
theorem read_narrow (r c : ℕ) (inb : ∀ a, (![r, c] : Fin 2 → ℕ) a + S128x64.size a ≤ S256x640.size a) (w : FVec Ideal S128x64 .bf16) (L : List (P Ideal))
    (i : Fin 128) (d : Fin 64) (y : S256x640.Idx) (h0 : (y (0 : Fin 2)).val = r + i.val) (h1 : (y (1 : Fin 2)).val = c + d.val) :
    aM.view.read (Elt Ideal) (aM.view.writes (Elt Ideal) blank ((⟨Rect.unit (s := S256x640) ![r, c] S128x64.size inb, w⟩ : P Ideal) :: L)) y
      = w (ix2 i d) := by
  have hx : ∀ a : Fin 2, (y a).val = (![r, c] : Fin 2 → ℕ) a + ((ix2 i d : S128x64.Idx) a).val := by
    intro a
    match a with
    | ⟨0, _⟩ => exact h0
    | ⟨1, _⟩ => exact h1
  have := View.read_writes_cons_unit_of_mem aM.view blank inb w L y (ix2 i d) rfl hx
  exact this

/-- The last store, read at its element `(i, d)`. -/
theorem read_wide (r c : ℕ) (inb : ∀ a, (![r, c] : Fin 2 → ℕ) a + S128x128.size a ≤ S256x640.size a) (w : FVec Ideal S128x128 .bf16) (L : List (P Ideal))
    (i : Fin 128) (d : Fin 128) (y : S256x640.Idx) (h0 : (y (0 : Fin 2)).val = r + i.val) (h1 : (y (1 : Fin 2)).val = c + d.val) :
    aM.view.read (Elt Ideal) (aM.view.writes (Elt Ideal) blank ((⟨Rect.unit (s := S256x640) ![r, c] S128x128.size inb, w⟩ : P Ideal) :: L)) y
      = w (ix2 i d) := by
  have hx : ∀ a : Fin 2, (y a).val = (![r, c] : Fin 2 → ℕ) a + ((ix2 i d : S128x128.Idx) a).val := by
    intro a
    match a with
    | ⟨0, _⟩ => exact h0
    | ⟨1, _⟩ => exact h1
  have := View.read_writes_cons_unit_of_mem aM.view blank inb w L y (ix2 i d) rfl hx
  exact this

/-- Nine stores into the rows of batch 0, the last first. -/
abbrev nine0 (w8 : FVec Ideal S128x128 .bf16) (w7 w6 w5 w4 w3 w2 w1 w0 : FVec Ideal S128x64 .bf16) : List (P Ideal) :=
  [⟨Rect.unit (s := S256x640) ![0, 512] S128x128.size inb_S256x640_S128x128_0_512, w8⟩,
   ⟨Rect.unit (s := S256x640) ![0, 448] S128x64.size inb_S256x640_S128x64_0_448, w7⟩,
   ⟨Rect.unit (s := S256x640) ![0, 384] S128x64.size inb_S256x640_S128x64_0_384, w6⟩,
   ⟨Rect.unit (s := S256x640) ![0, 320] S128x64.size inb_S256x640_S128x64_0_320, w5⟩,
   ⟨Rect.unit (s := S256x640) ![0, 256] S128x64.size inb_S256x640_S128x64_0_256, w4⟩,
   ⟨Rect.unit (s := S256x640) ![0, 192] S128x64.size inb_S256x640_S128x64_0_192, w3⟩,
   ⟨Rect.unit (s := S256x640) ![0, 128] S128x64.size inb_S256x640_S128x64_0_128, w2⟩,
   ⟨Rect.unit (s := S256x640) ![0, 64] S128x64.size inb_S256x640_S128x64_0_64, w1⟩,
   ⟨Rect.unit (s := S256x640) ![0, 0] S128x64.size inb_S256x640_S128x64_0_0, w0⟩]

/-- Nine stores into the rows of batch 1, the last first. -/
abbrev nine1 (w8 : FVec Ideal S128x128 .bf16) (w7 w6 w5 w4 w3 w2 w1 w0 : FVec Ideal S128x64 .bf16) : List (P Ideal) :=
  [⟨Rect.unit (s := S256x640) ![128, 512] S128x128.size inb_S256x640_S128x128_128_512, w8⟩,
   ⟨Rect.unit (s := S256x640) ![128, 448] S128x64.size inb_S256x640_S128x64_128_448, w7⟩,
   ⟨Rect.unit (s := S256x640) ![128, 384] S128x64.size inb_S256x640_S128x64_128_384, w6⟩,
   ⟨Rect.unit (s := S256x640) ![128, 320] S128x64.size inb_S256x640_S128x64_128_320, w5⟩,
   ⟨Rect.unit (s := S256x640) ![128, 256] S128x64.size inb_S256x640_S128x64_128_256, w4⟩,
   ⟨Rect.unit (s := S256x640) ![128, 192] S128x64.size inb_S256x640_S128x64_128_192, w3⟩,
   ⟨Rect.unit (s := S256x640) ![128, 128] S128x64.size inb_S256x640_S128x64_128_128, w2⟩,
   ⟨Rect.unit (s := S256x640) ![128, 64] S128x64.size inb_S256x640_S128x64_128_64, w1⟩,
   ⟨Rect.unit (s := S256x640) ![128, 0] S128x64.size inb_S256x640_S128x64_128_0, w0⟩]

theorem pick_0_0 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 0 d)) = w0 (ix2 i d) := by
  have hd : d.val < 64 := d.isLt
  rw [View.read_writes_cons_unit_of_not_mem _ _ _ _ _ _ rfl (1 : Fin 2) (Or.inl (by show 64 * 0 + d.val < 512; omega))]
  rw [View.read_writes_cons_unit_of_not_mem _ _ _ _ _ _ rfl (1 : Fin 2) (Or.inl (by show 64 * 0 + d.val < 448; omega))]
  rw [View.read_writes_cons_unit_of_not_mem _ _ _ _ _ _ rfl (1 : Fin 2) (Or.inl (by show 64 * 0 + d.val < 384; omega))]
  rw [View.read_writes_cons_unit_of_not_mem _ _ _ _ _ _ rfl (1 : Fin 2) (Or.inl (by show 64 * 0 + d.val < 320; omega))]
  rw [View.read_writes_cons_unit_of_not_mem _ _ _ _ _ _ rfl (1 : Fin 2) (Or.inl (by show 64 * 0 + d.val < 256; omega))]
  rw [View.read_writes_cons_unit_of_not_mem _ _ _ _ _ _ rfl (1 : Fin 2) (Or.inl (by show 64 * 0 + d.val < 192; omega))]
  rw [View.read_writes_cons_unit_of_not_mem _ _ _ _ _ _ rfl (1 : Fin 2) (Or.inl (by show 64 * 0 + d.val < 128; omega))]
  rw [View.read_writes_cons_unit_of_not_mem _ _ _ _ _ _ rfl (1 : Fin 2) (Or.inl (by show 64 * 0 + d.val < 64; omega))]
  exact read_narrow _ _ _ _ _ i d _ (by show 128 * 0 + i.val = 0 + i.val; omega) (by show 64 * 0 + d.val = 0 + d.val; omega)

theorem pick_0_1 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 1 d)) = w1 (ix2 i d) := by
  have hd : d.val < 64 := d.isLt
  rw [View.read_writes_cons_unit_of_not_mem _ _ _ _ _ _ rfl (1 : Fin 2) (Or.inl (by show 64 * 1 + d.val < 512; omega))]
  rw [View.read_writes_cons_unit_of_not_mem _ _ _ _ _ _ rfl (1 : Fin 2) (Or.inl (by show 64 * 1 + d.val < 448; omega))]
  rw [View.read_writes_cons_unit_of_not_mem _ _ _ _ _ _ rfl (1 : Fin 2) (Or.inl (by show 64 * 1 + d.val < 384; omega))]
  rw [View.read_writes_cons_unit_of_not_mem _ _ _ _ _ _ rfl (1 : Fin 2) (Or.inl (by show 64 * 1 + d.val < 320; omega))]
  rw [View.read_writes_cons_unit_of_not_mem _ _ _ _ _ _ rfl (1 : Fin 2) (Or.inl (by show 64 * 1 + d.val < 256; omega))]
  rw [View.read_writes_cons_unit_of_not_mem _ _ _ _ _ _ rfl (1 : Fin 2) (Or.inl (by show 64 * 1 + d.val < 192; omega))]
  rw [View.read_writes_cons_unit_of_not_mem _ _ _ _ _ _ rfl (1 : Fin 2) (Or.inl (by show 64 * 1 + d.val < 128; omega))]
  exact read_narrow _ _ _ _ _ i d _ (by show 128 * 0 + i.val = 0 + i.val; omega) (by show 64 * 1 + d.val = 64 + d.val; omega)

theorem pick_0_2 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 2 d)) = w2 (ix2 i d) := by
  have hd : d.val < 64 := d.isLt
  rw [View.read_writes_cons_unit_of_not_mem _ _ _ _ _ _ rfl (1 : Fin 2) (Or.inl (by show 64 * 2 + d.val < 512; omega))]
  rw [View.read_writes_cons_unit_of_not_mem _ _ _ _ _ _ rfl (1 : Fin 2) (Or.inl (by show 64 * 2 + d.val < 448; omega))]
  rw [View.read_writes_cons_unit_of_not_mem _ _ _ _ _ _ rfl (1 : Fin 2) (Or.inl (by show 64 * 2 + d.val < 384; omega))]
  rw [View.read_writes_cons_unit_of_not_mem _ _ _ _ _ _ rfl (1 : Fin 2) (Or.inl (by show 64 * 2 + d.val < 320; omega))]
  rw [View.read_writes_cons_unit_of_not_mem _ _ _ _ _ _ rfl (1 : Fin 2) (Or.inl (by show 64 * 2 + d.val < 256; omega))]
  rw [View.read_writes_cons_unit_of_not_mem _ _ _ _ _ _ rfl (1 : Fin 2) (Or.inl (by show 64 * 2 + d.val < 192; omega))]
  exact read_narrow _ _ _ _ _ i d _ (by show 128 * 0 + i.val = 0 + i.val; omega) (by show 64 * 2 + d.val = 128 + d.val; omega)

theorem pick_0_3 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 3 d)) = w3 (ix2 i d) := by
  have hd : d.val < 64 := d.isLt
  rw [View.read_writes_cons_unit_of_not_mem _ _ _ _ _ _ rfl (1 : Fin 2) (Or.inl (by show 64 * 3 + d.val < 512; omega))]
  rw [View.read_writes_cons_unit_of_not_mem _ _ _ _ _ _ rfl (1 : Fin 2) (Or.inl (by show 64 * 3 + d.val < 448; omega))]
  rw [View.read_writes_cons_unit_of_not_mem _ _ _ _ _ _ rfl (1 : Fin 2) (Or.inl (by show 64 * 3 + d.val < 384; omega))]
  rw [View.read_writes_cons_unit_of_not_mem _ _ _ _ _ _ rfl (1 : Fin 2) (Or.inl (by show 64 * 3 + d.val < 320; omega))]
  rw [View.read_writes_cons_unit_of_not_mem _ _ _ _ _ _ rfl (1 : Fin 2) (Or.inl (by show 64 * 3 + d.val < 256; omega))]
  exact read_narrow _ _ _ _ _ i d _ (by show 128 * 0 + i.val = 0 + i.val; omega) (by show 64 * 3 + d.val = 192 + d.val; omega)

theorem pick_0_4 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 4 d)) = w4 (ix2 i d) := by
  have hd : d.val < 64 := d.isLt
  rw [View.read_writes_cons_unit_of_not_mem _ _ _ _ _ _ rfl (1 : Fin 2) (Or.inl (by show 64 * 4 + d.val < 512; omega))]
  rw [View.read_writes_cons_unit_of_not_mem _ _ _ _ _ _ rfl (1 : Fin 2) (Or.inl (by show 64 * 4 + d.val < 448; omega))]
  rw [View.read_writes_cons_unit_of_not_mem _ _ _ _ _ _ rfl (1 : Fin 2) (Or.inl (by show 64 * 4 + d.val < 384; omega))]
  rw [View.read_writes_cons_unit_of_not_mem _ _ _ _ _ _ rfl (1 : Fin 2) (Or.inl (by show 64 * 4 + d.val < 320; omega))]
  exact read_narrow _ _ _ _ _ i d _ (by show 128 * 0 + i.val = 0 + i.val; omega) (by show 64 * 4 + d.val = 256 + d.val; omega)

theorem pick_0_5 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 5 d)) = w5 (ix2 i d) := by
  have hd : d.val < 64 := d.isLt
  rw [View.read_writes_cons_unit_of_not_mem _ _ _ _ _ _ rfl (1 : Fin 2) (Or.inl (by show 64 * 5 + d.val < 512; omega))]
  rw [View.read_writes_cons_unit_of_not_mem _ _ _ _ _ _ rfl (1 : Fin 2) (Or.inl (by show 64 * 5 + d.val < 448; omega))]
  rw [View.read_writes_cons_unit_of_not_mem _ _ _ _ _ _ rfl (1 : Fin 2) (Or.inl (by show 64 * 5 + d.val < 384; omega))]
  exact read_narrow _ _ _ _ _ i d _ (by show 128 * 0 + i.val = 0 + i.val; omega) (by show 64 * 5 + d.val = 320 + d.val; omega)

theorem pick_0_6 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 6 d)) = w6 (ix2 i d) := by
  have hd : d.val < 64 := d.isLt
  rw [View.read_writes_cons_unit_of_not_mem _ _ _ _ _ _ rfl (1 : Fin 2) (Or.inl (by show 64 * 6 + d.val < 512; omega))]
  rw [View.read_writes_cons_unit_of_not_mem _ _ _ _ _ _ rfl (1 : Fin 2) (Or.inl (by show 64 * 6 + d.val < 448; omega))]
  exact read_narrow _ _ _ _ _ i d _ (by show 128 * 0 + i.val = 0 + i.val; omega) (by show 64 * 6 + d.val = 384 + d.val; omega)

theorem pick_0_7 (w8 : FVec Ideal S128x128 .bf16) (w7 w6 w5 w4 w3 w2 w1 w0 : FVec Ideal S128x64 .bf16) (i : Fin 128) (d : Fin 64) :
    aM.view.read (Elt Ideal) (aM.view.writes (Elt Ideal) blank (nine0 w8 w7 w6 w5 w4 w3 w2 w1 w0)) (ix2 (row 0 i) (ncol 7 d)) = w7 (ix2 i d) := by
  have hd : d.val < 64 := d.isLt
  rw [View.read_writes_cons_unit_of_not_mem _ _ _ _ _ _ rfl (1 : Fin 2) (Or.inl (by show 64 * 7 + d.val < 512; omega))]
  exact read_narrow _ _ _ _ _ i d _ (by show 128 * 0 + i.val = 0 + i.val; omega) (by show 64 * 7 + d.val = 448 + d.val; omega)

theorem pick_0 (w8 : FVec Ideal S128x128 .bf16) (w7 w6 w5 w4 w3 w2 w1 w0 : FVec Ideal S128x64 .bf16) (h : Fin 8) (i : Fin 128) :
    aM.view.read (Elt Ideal) (aM.view.writes (Elt Ideal) blank (nine0 w8 w7 w6 w5 w4 w3 w2 w1 w0)) (ix2 (row 0 i) (dcol h)) = w8 (ix2 i (⟨h.val, by omega⟩ : Fin 128)) := by
  exact read_wide _ _ _ _ _ i (⟨h.val, by omega⟩ : Fin 128) _ (by show 128 * 0 + i.val = 0 + i.val; omega) rfl

theorem pick_1_0 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 0 d)) = w0 (ix2 i d) := by
  have hd : d.val < 64 := d.isLt
  rw [View.read_writes_cons_unit_of_not_mem _ _ _ _ _ _ rfl (1 : Fin 2) (Or.inl (by show 64 * 0 + d.val < 512; omega))]
  rw [View.read_writes_cons_unit_of_not_mem _ _ _ _ _ _ rfl (1 : Fin 2) (Or.inl (by show 64 * 0 + d.val < 448; omega))]
  rw [View.read_writes_cons_unit_of_not_mem _ _ _ _ _ _ rfl (1 : Fin 2) (Or.inl (by show 64 * 0 + d.val < 384; omega))]
  rw [View.read_writes_cons_unit_of_not_mem _ _ _ _ _ _ rfl (1 : Fin 2) (Or.inl (by show 64 * 0 + d.val < 320; omega))]
  rw [View.read_writes_cons_unit_of_not_mem _ _ _ _ _ _ rfl (1 : Fin 2) (Or.inl (by show 64 * 0 + d.val < 256; omega))]
  rw [View.read_writes_cons_unit_of_not_mem _ _ _ _ _ _ rfl (1 : Fin 2) (Or.inl (by show 64 * 0 + d.val < 192; omega))]
  rw [View.read_writes_cons_unit_of_not_mem _ _ _ _ _ _ rfl (1 : Fin 2) (Or.inl (by show 64 * 0 + d.val < 128; omega))]
  rw [View.read_writes_cons_unit_of_not_mem _ _ _ _ _ _ rfl (1 : Fin 2) (Or.inl (by show 64 * 0 + d.val < 64; omega))]
  exact read_narrow _ _ _ _ _ i d _ (by show 128 * 1 + i.val = 128 + i.val; omega) (by show 64 * 0 + d.val = 0 + d.val; omega)

theorem pick_1_1 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 1 d)) = w1 (ix2 i d) := by
  have hd : d.val < 64 := d.isLt
  rw [View.read_writes_cons_unit_of_not_mem _ _ _ _ _ _ rfl (1 : Fin 2) (Or.inl (by show 64 * 1 + d.val < 512; omega))]
  rw [View.read_writes_cons_unit_of_not_mem _ _ _ _ _ _ rfl (1 : Fin 2) (Or.inl (by show 64 * 1 + d.val < 448; omega))]
  rw [View.read_writes_cons_unit_of_not_mem _ _ _ _ _ _ rfl (1 : Fin 2) (Or.inl (by show 64 * 1 + d.val < 384; omega))]
  rw [View.read_writes_cons_unit_of_not_mem _ _ _ _ _ _ rfl (1 : Fin 2) (Or.inl (by show 64 * 1 + d.val < 320; omega))]
  rw [View.read_writes_cons_unit_of_not_mem _ _ _ _ _ _ rfl (1 : Fin 2) (Or.inl (by show 64 * 1 + d.val < 256; omega))]
  rw [View.read_writes_cons_unit_of_not_mem _ _ _ _ _ _ rfl (1 : Fin 2) (Or.inl (by show 64 * 1 + d.val < 192; omega))]
  rw [View.read_writes_cons_unit_of_not_mem _ _ _ _ _ _ rfl (1 : Fin 2) (Or.inl (by show 64 * 1 + d.val < 128; omega))]
  exact read_narrow _ _ _ _ _ i d _ (by show 128 * 1 + i.val = 128 + i.val; omega) (by show 64 * 1 + d.val = 64 + d.val; omega)

theorem pick_1_2 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 2 d)) = w2 (ix2 i d) := by
  have hd : d.val < 64 := d.isLt
  rw [View.read_writes_cons_unit_of_not_mem _ _ _ _ _ _ rfl (1 : Fin 2) (Or.inl (by show 64 * 2 + d.val < 512; omega))]
  rw [View.read_writes_cons_unit_of_not_mem _ _ _ _ _ _ rfl (1 : Fin 2) (Or.inl (by show 64 * 2 + d.val < 448; omega))]
  rw [View.read_writes_cons_unit_of_not_mem _ _ _ _ _ _ rfl (1 : Fin 2) (Or.inl (by show 64 * 2 + d.val < 384; omega))]
  rw [View.read_writes_cons_unit_of_not_mem _ _ _ _ _ _ rfl (1 : Fin 2) (Or.inl (by show 64 * 2 + d.val < 320; omega))]
  rw [View.read_writes_cons_unit_of_not_mem _ _ _ _ _ _ rfl (1 : Fin 2) (Or.inl (by show 64 * 2 + d.val < 256; omega))]
  rw [View.read_writes_cons_unit_of_not_mem _ _ _ _ _ _ rfl (1 : Fin 2) (Or.inl (by show 64 * 2 + d.val < 192; omega))]
  exact read_narrow _ _ _ _ _ i d _ (by show 128 * 1 + i.val = 128 + i.val; omega) (by show 64 * 2 + d.val = 128 + d.val; omega)

theorem pick_1_3 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 3 d)) = w3 (ix2 i d) := by
  have hd : d.val < 64 := d.isLt
  rw [View.read_writes_cons_unit_of_not_mem _ _ _ _ _ _ rfl (1 : Fin 2) (Or.inl (by show 64 * 3 + d.val < 512; omega))]
  rw [View.read_writes_cons_unit_of_not_mem _ _ _ _ _ _ rfl (1 : Fin 2) (Or.inl (by show 64 * 3 + d.val < 448; omega))]
  rw [View.read_writes_cons_unit_of_not_mem _ _ _ _ _ _ rfl (1 : Fin 2) (Or.inl (by show 64 * 3 + d.val < 384; omega))]
  rw [View.read_writes_cons_unit_of_not_mem _ _ _ _ _ _ rfl (1 : Fin 2) (Or.inl (by show 64 * 3 + d.val < 320; omega))]
  rw [View.read_writes_cons_unit_of_not_mem _ _ _ _ _ _ rfl (1 : Fin 2) (Or.inl (by show 64 * 3 + d.val < 256; omega))]
  exact read_narrow _ _ _ _ _ i d _ (by show 128 * 1 + i.val = 128 + i.val; omega) (by show 64 * 3 + d.val = 192 + d.val; omega)

theorem pick_1_4 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 4 d)) = w4 (ix2 i d) := by
  have hd : d.val < 64 := d.isLt
  rw [View.read_writes_cons_unit_of_not_mem _ _ _ _ _ _ rfl (1 : Fin 2) (Or.inl (by show 64 * 4 + d.val < 512; omega))]
  rw [View.read_writes_cons_unit_of_not_mem _ _ _ _ _ _ rfl (1 : Fin 2) (Or.inl (by show 64 * 4 + d.val < 448; omega))]
  rw [View.read_writes_cons_unit_of_not_mem _ _ _ _ _ _ rfl (1 : Fin 2) (Or.inl (by show 64 * 4 + d.val < 384; omega))]
  rw [View.read_writes_cons_unit_of_not_mem _ _ _ _ _ _ rfl (1 : Fin 2) (Or.inl (by show 64 * 4 + d.val < 320; omega))]
  exact read_narrow _ _ _ _ _ i d _ (by show 128 * 1 + i.val = 128 + i.val; omega) (by show 64 * 4 + d.val = 256 + d.val; omega)

theorem pick_1_5 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 5 d)) = w5 (ix2 i d) := by
  have hd : d.val < 64 := d.isLt
  rw [View.read_writes_cons_unit_of_not_mem _ _ _ _ _ _ rfl (1 : Fin 2) (Or.inl (by show 64 * 5 + d.val < 512; omega))]
  rw [View.read_writes_cons_unit_of_not_mem _ _ _ _ _ _ rfl (1 : Fin 2) (Or.inl (by show 64 * 5 + d.val < 448; omega))]
  rw [View.read_writes_cons_unit_of_not_mem _ _ _ _ _ _ rfl (1 : Fin 2) (Or.inl (by show 64 * 5 + d.val < 384; omega))]
  exact read_narrow _ _ _ _ _ i d _ (by show 128 * 1 + i.val = 128 + i.val; omega) (by show 64 * 5 + d.val = 320 + d.val; omega)

theorem pick_1_6 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 6 d)) = w6 (ix2 i d) := by
  have hd : d.val < 64 := d.isLt
  rw [View.read_writes_cons_unit_of_not_mem _ _ _ _ _ _ rfl (1 : Fin 2) (Or.inl (by show 64 * 6 + d.val < 512; omega))]
  rw [View.read_writes_cons_unit_of_not_mem _ _ _ _ _ _ rfl (1 : Fin 2) (Or.inl (by show 64 * 6 + d.val < 448; omega))]
  exact read_narrow _ _ _ _ _ i d _ (by show 128 * 1 + i.val = 128 + i.val; omega) (by show 64 * 6 + d.val = 384 + d.val; omega)

theorem pick_1_7 (w8 : FVec Ideal S128x128 .bf16) (w7 w6 w5 w4 w3 w2 w1 w0 : FVec Ideal S128x64 .bf16) (i : Fin 128) (d : Fin 64) :
    aM.view.read (Elt Ideal) (aM.view.writes (Elt Ideal) blank (nine1 w8 w7 w6 w5 w4 w3 w2 w1 w0)) (ix2 (row 1 i) (ncol 7 d)) = w7 (ix2 i d) := by
  have hd : d.val < 64 := d.isLt
  rw [View.read_writes_cons_unit_of_not_mem _ _ _ _ _ _ rfl (1 : Fin 2) (Or.inl (by show 64 * 7 + d.val < 512; omega))]
  exact read_narrow _ _ _ _ _ i d _ (by show 128 * 1 + i.val = 128 + i.val; omega) (by show 64 * 7 + d.val = 448 + d.val; omega)

theorem pick_1 (w8 : FVec Ideal S128x128 .bf16) (w7 w6 w5 w4 w3 w2 w1 w0 : FVec Ideal S128x64 .bf16) (h : Fin 8) (i : Fin 128) :
    aM.view.read (Elt Ideal) (aM.view.writes (Elt Ideal) blank (nine1 w8 w7 w6 w5 w4 w3 w2 w1 w0)) (ix2 (row 1 i) (dcol h)) = w8 (ix2 i (⟨h.val, by omega⟩ : Fin 128)) := by
  exact read_wide _ _ _ _ _ i (⟨h.val, by omega⟩ : Fin 128) _ (by show 128 * 1 + i.val = 128 + i.val; omega) rfl

theorem part_num_0_0 (i : Fin 128) (d : Fin 64) : partI x wq k v 0 (ix2 i (ncol 0 d)) = numA x wq k v 0 0 i d := by
  rw [← num_zero]
  refine Eq.trans ?_ (num_0_0 x wq k v i d)
  refine (part_read x wq k v 0 i (ncol 0 d)).trans ?_
  rw [pieces_zero]
  exact pick_0_0 _ _ _ _ _ _ _ _ _ i d

theorem part_den_0_0 (i : Fin 128) : partI x wq k v 0 (ix2 i (dcol 0)) = denA x wq k 0 0 i := by
  rw [← den_zero]
  refine Eq.trans ?_ (sum_0_0 x wq k i)
  refine (part_read x wq k v 0 i (dcol 0)).trans ?_
  rw [pieces_zero]
  exact pick_0 _ _ _ _ _ _ _ _ _ 0 i

theorem part_num_0_1 (i : Fin 128) (d : Fin 64) : partI x wq k v 0 (ix2 i (ncol 1 d)) = numA x wq k v 0 1 i d := by
  rw [← num_zero]
  refine Eq.trans ?_ (num_0_1 x wq k v i d)
  refine (part_read x wq k v 0 i (ncol 1 d)).trans ?_
  rw [pieces_zero]
  exact pick_0_1 _ _ _ _ _ _ _ _ _ i d

theorem part_den_0_1 (i : Fin 128) : partI x wq k v 0 (ix2 i (dcol 1)) = denA x wq k 0 1 i := by
  rw [← den_zero]
  refine Eq.trans ?_ (sum_0_1 x wq k i)
  refine (part_read x wq k v 0 i (dcol 1)).trans ?_
  rw [pieces_zero]
  exact pick_0 _ _ _ _ _ _ _ _ _ 1 i

theorem part_num_0_2 (i : Fin 128) (d : Fin 64) : partI x wq k v 0 (ix2 i (ncol 2 d)) = numA x wq k v 0 2 i d := by
  rw [← num_zero]
  refine Eq.trans ?_ (num_0_2 x wq k v i d)
  refine (part_read x wq k v 0 i (ncol 2 d)).trans ?_
  rw [pieces_zero]
  exact pick_0_2 _ _ _ _ _ _ _ _ _ i d

theorem part_den_0_2 (i : Fin 128) : partI x wq k v 0 (ix2 i (dcol 2)) = denA x wq k 0 2 i := by
  rw [← den_zero]
  refine Eq.trans ?_ (sum_0_2 x wq k i)
  refine (part_read x wq k v 0 i (dcol 2)).trans ?_
  rw [pieces_zero]
  exact pick_0 _ _ _ _ _ _ _ _ _ 2 i

theorem part_num_0_3 (i : Fin 128) (d : Fin 64) : partI x wq k v 0 (ix2 i (ncol 3 d)) = numA x wq k v 0 3 i d := by
  rw [← num_zero]
  refine Eq.trans ?_ (num_0_3 x wq k v i d)
  refine (part_read x wq k v 0 i (ncol 3 d)).trans ?_
  rw [pieces_zero]
  exact pick_0_3 _ _ _ _ _ _ _ _ _ i d

theorem part_den_0_3 (i : Fin 128) : partI x wq k v 0 (ix2 i (dcol 3)) = denA x wq k 0 3 i := by
  rw [← den_zero]
  refine Eq.trans ?_ (sum_0_3 x wq k i)
  refine (part_read x wq k v 0 i (dcol 3)).trans ?_
  rw [pieces_zero]
  exact pick_0 _ _ _ _ _ _ _ _ _ 3 i

theorem part_num_0_4 (i : Fin 128) (d : Fin 64) : partI x wq k v 0 (ix2 i (ncol 4 d)) = numA x wq k v 0 4 i d := by
  rw [← num_zero]
  refine Eq.trans ?_ (num_0_4 x wq k v i d)
  refine (part_read x wq k v 0 i (ncol 4 d)).trans ?_
  rw [pieces_zero]
  exact pick_0_4 _ _ _ _ _ _ _ _ _ i d

theorem part_den_0_4 (i : Fin 128) : partI x wq k v 0 (ix2 i (dcol 4)) = denA x wq k 0 4 i := by
  rw [← den_zero]
  refine Eq.trans ?_ (sum_0_4 x wq k i)
  refine (part_read x wq k v 0 i (dcol 4)).trans ?_
  rw [pieces_zero]
  exact pick_0 _ _ _ _ _ _ _ _ _ 4 i

theorem part_num_0_5 (i : Fin 128) (d : Fin 64) : partI x wq k v 0 (ix2 i (ncol 5 d)) = numA x wq k v 0 5 i d := by
  rw [← num_zero]
  refine Eq.trans ?_ (num_0_5 x wq k v i d)
  refine (part_read x wq k v 0 i (ncol 5 d)).trans ?_
  rw [pieces_zero]
  exact pick_0_5 _ _ _ _ _ _ _ _ _ i d

theorem part_den_0_5 (i : Fin 128) : partI x wq k v 0 (ix2 i (dcol 5)) = denA x wq k 0 5 i := by
  rw [← den_zero]
  refine Eq.trans ?_ (sum_0_5 x wq k i)
  refine (part_read x wq k v 0 i (dcol 5)).trans ?_
  rw [pieces_zero]
  exact pick_0 _ _ _ _ _ _ _ _ _ 5 i

theorem part_num_0_6 (i : Fin 128) (d : Fin 64) : partI x wq k v 0 (ix2 i (ncol 6 d)) = numA x wq k v 0 6 i d := by
  rw [← num_zero]
  refine Eq.trans ?_ (num_0_6 x wq k v i d)
  refine (part_read x wq k v 0 i (ncol 6 d)).trans ?_
  rw [pieces_zero]
  exact pick_0_6 _ _ _ _ _ _ _ _ _ i d

theorem part_den_0_6 (i : Fin 128) : partI x wq k v 0 (ix2 i (dcol 6)) = denA x wq k 0 6 i := by
  rw [← den_zero]
  refine Eq.trans ?_ (sum_0_6 x wq k i)
  refine (part_read x wq k v 0 i (dcol 6)).trans ?_
  rw [pieces_zero]
  exact pick_0 _ _ _ _ _ _ _ _ _ 6 i

theorem part_num_0_7 (i : Fin 128) (d : Fin 64) : partI x wq k v 0 (ix2 i (ncol 7 d)) = numA x wq k v 0 7 i d := by
  rw [← num_zero]
  refine Eq.trans ?_ (num_0_7 x wq k v i d)
  refine (part_read x wq k v 0 i (ncol 7 d)).trans ?_
  rw [pieces_zero]
  exact pick_0_7 _ _ _ _ _ _ _ _ _ i d

theorem part_den_0_7 (i : Fin 128) : partI x wq k v 0 (ix2 i (dcol 7)) = denA x wq k 0 7 i := by
  rw [← den_zero]
  refine Eq.trans ?_ (sum_0_7 x wq k i)
  refine (part_read x wq k v 0 i (dcol 7)).trans ?_
  rw [pieces_zero]
  exact pick_0 _ _ _ _ _ _ _ _ _ 7 i

theorem part_num_1_0 (i : Fin 128) (d : Fin 64) : partI x wq k v 1 (ix2 i (ncol 0 d)) = numA x wq k v 1 0 i d := by
  rw [← num_one]
  refine Eq.trans ?_ (num_1_0 x wq k v i d)
  refine (part_read x wq k v 1 i (ncol 0 d)).trans ?_
  rw [pieces_one]
  exact pick_1_0 _ _ _ _ _ _ _ _ _ i d

theorem part_den_1_0 (i : Fin 128) : partI x wq k v 1 (ix2 i (dcol 0)) = denA x wq k 1 0 i := by
  rw [← den_one]
  refine Eq.trans ?_ (sum_1_0 x wq k i)
  refine (part_read x wq k v 1 i (dcol 0)).trans ?_
  rw [pieces_one]
  exact pick_1 _ _ _ _ _ _ _ _ _ 0 i

theorem part_num_1_1 (i : Fin 128) (d : Fin 64) : partI x wq k v 1 (ix2 i (ncol 1 d)) = numA x wq k v 1 1 i d := by
  rw [← num_one]
  refine Eq.trans ?_ (num_1_1 x wq k v i d)
  refine (part_read x wq k v 1 i (ncol 1 d)).trans ?_
  rw [pieces_one]
  exact pick_1_1 _ _ _ _ _ _ _ _ _ i d

theorem part_den_1_1 (i : Fin 128) : partI x wq k v 1 (ix2 i (dcol 1)) = denA x wq k 1 1 i := by
  rw [← den_one]
  refine Eq.trans ?_ (sum_1_1 x wq k i)
  refine (part_read x wq k v 1 i (dcol 1)).trans ?_
  rw [pieces_one]
  exact pick_1 _ _ _ _ _ _ _ _ _ 1 i

theorem part_num_1_2 (i : Fin 128) (d : Fin 64) : partI x wq k v 1 (ix2 i (ncol 2 d)) = numA x wq k v 1 2 i d := by
  rw [← num_one]
  refine Eq.trans ?_ (num_1_2 x wq k v i d)
  refine (part_read x wq k v 1 i (ncol 2 d)).trans ?_
  rw [pieces_one]
  exact pick_1_2 _ _ _ _ _ _ _ _ _ i d

theorem part_den_1_2 (i : Fin 128) : partI x wq k v 1 (ix2 i (dcol 2)) = denA x wq k 1 2 i := by
  rw [← den_one]
  refine Eq.trans ?_ (sum_1_2 x wq k i)
  refine (part_read x wq k v 1 i (dcol 2)).trans ?_
  rw [pieces_one]
  exact pick_1 _ _ _ _ _ _ _ _ _ 2 i

theorem part_num_1_3 (i : Fin 128) (d : Fin 64) : partI x wq k v 1 (ix2 i (ncol 3 d)) = numA x wq k v 1 3 i d := by
  rw [← num_one]
  refine Eq.trans ?_ (num_1_3 x wq k v i d)
  refine (part_read x wq k v 1 i (ncol 3 d)).trans ?_
  rw [pieces_one]
  exact pick_1_3 _ _ _ _ _ _ _ _ _ i d

theorem part_den_1_3 (i : Fin 128) : partI x wq k v 1 (ix2 i (dcol 3)) = denA x wq k 1 3 i := by
  rw [← den_one]
  refine Eq.trans ?_ (sum_1_3 x wq k i)
  refine (part_read x wq k v 1 i (dcol 3)).trans ?_
  rw [pieces_one]
  exact pick_1 _ _ _ _ _ _ _ _ _ 3 i

theorem part_num_1_4 (i : Fin 128) (d : Fin 64) : partI x wq k v 1 (ix2 i (ncol 4 d)) = numA x wq k v 1 4 i d := by
  rw [← num_one]
  refine Eq.trans ?_ (num_1_4 x wq k v i d)
  refine (part_read x wq k v 1 i (ncol 4 d)).trans ?_
  rw [pieces_one]
  exact pick_1_4 _ _ _ _ _ _ _ _ _ i d

theorem part_den_1_4 (i : Fin 128) : partI x wq k v 1 (ix2 i (dcol 4)) = denA x wq k 1 4 i := by
  rw [← den_one]
  refine Eq.trans ?_ (sum_1_4 x wq k i)
  refine (part_read x wq k v 1 i (dcol 4)).trans ?_
  rw [pieces_one]
  exact pick_1 _ _ _ _ _ _ _ _ _ 4 i

theorem part_num_1_5 (i : Fin 128) (d : Fin 64) : partI x wq k v 1 (ix2 i (ncol 5 d)) = numA x wq k v 1 5 i d := by
  rw [← num_one]
  refine Eq.trans ?_ (num_1_5 x wq k v i d)
  refine (part_read x wq k v 1 i (ncol 5 d)).trans ?_
  rw [pieces_one]
  exact pick_1_5 _ _ _ _ _ _ _ _ _ i d

theorem part_den_1_5 (i : Fin 128) : partI x wq k v 1 (ix2 i (dcol 5)) = denA x wq k 1 5 i := by
  rw [← den_one]
  refine Eq.trans ?_ (sum_1_5 x wq k i)
  refine (part_read x wq k v 1 i (dcol 5)).trans ?_
  rw [pieces_one]
  exact pick_1 _ _ _ _ _ _ _ _ _ 5 i

theorem part_num_1_6 (i : Fin 128) (d : Fin 64) : partI x wq k v 1 (ix2 i (ncol 6 d)) = numA x wq k v 1 6 i d := by
  rw [← num_one]
  refine Eq.trans ?_ (num_1_6 x wq k v i d)
  refine (part_read x wq k v 1 i (ncol 6 d)).trans ?_
  rw [pieces_one]
  exact pick_1_6 _ _ _ _ _ _ _ _ _ i d

theorem part_den_1_6 (i : Fin 128) : partI x wq k v 1 (ix2 i (dcol 6)) = denA x wq k 1 6 i := by
  rw [← den_one]
  refine Eq.trans ?_ (sum_1_6 x wq k i)
  refine (part_read x wq k v 1 i (dcol 6)).trans ?_
  rw [pieces_one]
  exact pick_1 _ _ _ _ _ _ _ _ _ 6 i

theorem part_num_1_7 (i : Fin 128) (d : Fin 64) : partI x wq k v 1 (ix2 i (ncol 7 d)) = numA x wq k v 1 7 i d := by
  rw [← num_one]
  refine Eq.trans ?_ (num_1_7 x wq k v i d)
  refine (part_read x wq k v 1 i (ncol 7 d)).trans ?_
  rw [pieces_one]
  exact pick_1_7 _ _ _ _ _ _ _ _ _ i d

theorem part_den_1_7 (i : Fin 128) : partI x wq k v 1 (ix2 i (dcol 7)) = denA x wq k 1 7 i := by
  rw [← den_one]
  refine Eq.trans ?_ (sum_1_7 x wq k i)
  refine (part_read x wq k v 1 i (dcol 7)).trans ?_
  rw [pieces_one]
  exact pick_1 _ _ _ _ _ _ _ _ _ 7 i

theorem part_num (b : Fin 2) (h : Fin 8) (i : Fin 128) (d : Fin 64) : partI x wq k v b (ix2 i (ncol h d)) = numA x wq k v b h i d := by
  match b, h with
  | 0, 0 => exact part_num_0_0 x wq k v i d
  | 0, 1 => exact part_num_0_1 x wq k v i d
  | 0, 2 => exact part_num_0_2 x wq k v i d
  | 0, 3 => exact part_num_0_3 x wq k v i d
  | 0, 4 => exact part_num_0_4 x wq k v i d
  | 0, 5 => exact part_num_0_5 x wq k v i d
  | 0, 6 => exact part_num_0_6 x wq k v i d
  | 0, 7 => exact part_num_0_7 x wq k v i d
  | 1, 0 => exact part_num_1_0 x wq k v i d
  | 1, 1 => exact part_num_1_1 x wq k v i d
  | 1, 2 => exact part_num_1_2 x wq k v i d
  | 1, 3 => exact part_num_1_3 x wq k v i d
  | 1, 4 => exact part_num_1_4 x wq k v i d
  | 1, 5 => exact part_num_1_5 x wq k v i d
  | 1, 6 => exact part_num_1_6 x wq k v i d
  | 1, 7 => exact part_num_1_7 x wq k v i d

theorem part_den (b : Fin 2) (h : Fin 8) (i : Fin 128) : partI x wq k v b (ix2 i (dcol h)) = denA x wq k b h i := by
  match b, h with
  | 0, 0 => exact part_den_0_0 x wq k v i
  | 0, 1 => exact part_den_0_1 x wq k v i
  | 0, 2 => exact part_den_0_2 x wq k v i
  | 0, 3 => exact part_den_0_3 x wq k v i
  | 0, 4 => exact part_den_0_4 x wq k v i
  | 0, 5 => exact part_den_0_5 x wq k v i
  | 0, 6 => exact part_den_0_6 x wq k v i
  | 0, 7 => exact part_den_0_7 x wq k v i
  | 1, 0 => exact part_den_1_0 x wq k v i
  | 1, 1 => exact part_den_1_1 x wq k v i
  | 1, 2 => exact part_den_1_2 x wq k v i
  | 1, 3 => exact part_den_1_3 x wq k v i
  | 1, 4 => exact part_den_1_4 x wq k v i
  | 1, 5 => exact part_den_1_5 x wq k v i
  | 1, 6 => exact part_den_1_6 x wq k v i
  | 1, 7 => exact part_den_1_7 x wq k v i

end Cert.KernelRun
-- ==== Proof.ValueSum.lean ====
/-
# The sum over the devices

Five exchanges, the partner's number differing in one bit each time, leave every device with the sum of all 32 contributions:
after `n` of them a device holds the sum over the devices whose number agrees with its own above bit `n`.
-/
module

public import proofs.«01_k».proof.Proof.ValueFill
public import proofs.«01_k».proof.Proof.Body

@[expose] public section

set_option maxRecDepth 16384

noncomputable section

namespace Cert.KernelRun

open Cert.KernelIdeal Cert.KernelIdeal.Gen
open Idealize.ShloMosaic
open Idealize.ShloMosaic.TcCoe

/-! ## Doubling -/

/-- The devices whose number agrees with `c`'s above bit `n`. -/
def group (n : ℕ) (c : Fin 32) : Finset (Fin 32) := Finset.univ.filter fun d => d.val / 2 ^ n = c.val / 2 ^ n

theorem group_mem (s : Fin 5) (c d : Fin 32) :
    (d.val / 2 ^ (s.val + 1) = c.val / 2 ^ (s.val + 1) ↔ d.val / 2 ^ s.val = c.val / 2 ^ s.val ∨ d.val / 2 ^ s.val = (c.val ^^^ 2 ^ s.val) / 2 ^ s.val)
      ∧ ¬ (d.val / 2 ^ s.val = c.val / 2 ^ s.val ∧ d.val / 2 ^ s.val = (c.val ^^^ 2 ^ s.val) / 2 ^ s.val) := by
  revert s c d
  decide +kernel

theorem group_succ (s : Fin 5) (c : Fin 32) : group (s.val + 1) c = group s.val c ∪ group s.val (peer s c) := by
  ext d
  simp only [group, Finset.mem_union, Finset.mem_filter, Finset.mem_univ, true_and]
  exact (group_mem s c d).1

theorem group_disjoint (s : Fin 5) (c : Fin 32) : Disjoint (group s.val c) (group s.val (peer s c)) := by
  rw [Finset.disjoint_left]
  intro d h1 h2
  simp only [group, Finset.mem_filter, Finset.mem_univ, true_and] at h1 h2
  exact (group_mem s c d).2 ⟨h1, h2⟩

theorem group_zero (c : Fin 32) : group 0 c = {c} := by
  ext d
  simp only [group, Finset.mem_filter, Finset.mem_univ, true_and, Nat.pow_zero, Nat.div_one, Finset.mem_singleton]
  exact Fin.ext_iff.symm

theorem group_five (c : Fin 32) : group 5 c = Finset.univ := by
  ext d
  simp only [group, Finset.mem_filter, Finset.mem_univ, true_and, iff_true]
  omega

/-- Adding the partner's value at each of the first `n` bits adds up the group's values. -/
theorem doubling {M : Type} [AddCommMonoid M] (A : ℕ → Fin 32 → M) (hA : ∀ (s : Fin 5) c, A (s.val + 1) c = A s.val c + A s.val (peer s c))
    (n : ℕ) (hn : n ≤ 5) (c : Fin 32) : A n c = ∑ d ∈ group n c, A 0 d := by
  induction n generalizing c with
  | zero => rw [group_zero, Finset.sum_singleton]
  | succ n ih =>
    have h := hA ⟨n, hn⟩ c
    rw [h, ih (Nat.le_of_succ_le hn), ih (Nat.le_of_succ_le hn), group_succ ⟨n, hn⟩ c, Finset.sum_union (group_disjoint ⟨n, hn⟩ c)]

/-! ## The exchanges add -/

theorem upd_apply (V W : FVec Ideal S128x640 .bf16) (i : Fin 128) (c : Fin 640) :
    (upd (F := Ideal) V W (ix2 i c) : EReal) = V (ix2 i c) + W (ix2 i c) := by
  have hu : (up (F := Ideal) W (ix4 0 0 i c) : EReal) = W (ix2 i c) := by
    show W ((Shape.reshapeEquiv _).symm (ix4 0 0 i c)) = W (ix2 i c)
    congr 1
    rw [Equiv.symm_apply_eq]
    pointwise
  rw [← hu]
  pointwise [upd, k0_pay58]

variable (m : (ℓ : Loc nD τ sig) → Buf (Elt Ideal) ℓ)

/-- After the exchanges a device holds, at each element, the sum of the devices' contributions. -/
theorem acc_five (b : Fin 2) (c : Dev nD) (i : Fin 128) (e : Fin 640) :
    (acc m b 5 c (ix2 i e) : EReal) = ∑ d : Fin 32, partI (xst m d) (wqst m d) (kst m d) (vst m d) b (ix2 i e) := by
  have h := doubling (fun n d => (acc m b n d (ix2 i e) : EReal)) (fun s d => by
    show (acc m b (s.val + 1) d (ix2 i e) : EReal) = _
    rw [acc_succ]
    exact upd_apply _ _ i e) 5 le_rfl c
  rw [group_five] at h
  exact h

/-- The accumulator after the exchanges, as an array of extended reals. -/
def accE (c : Dev nD) : FVec Ideal S256x640 .bf16 := accEnd (F := Ideal) m c

theorem accEnd_apply (b : Fin 2) (c : Dev nD) (i : Fin 128) (e : Fin 640) :
    accE m c (ix2 (row b i) e) = ∑ d : Fin 32, partI (xst m d) (wqst m d) (kst m d) (vst m d) b (ix2 i e) := by
  rw [← acc_five m b c]
  have h := full_emb (F := Ideal) (fun st => acc m st 5 c) b (ix2 i e)
  rw [← h]
  show full (F := Ideal) (fun st => acc m st 5 c) (ix2 (row b i) e) = full (F := Ideal) (fun st => acc m st 5 c) ((rectH b).emb (ix2 i e))
  congr 1
  funext a
  match a with
  | ⟨0, _⟩ => exact Fin.ext (by show 128 * b.val + i.val = 128 * b.val + 1 * i.val; omega)
  | ⟨1, _⟩ => exact Fin.ext (by show e.val = 0 + 1 * e.val; omega)

/-- The summed exponentials times values, -/
theorem accEnd_num (b : Fin 2) (c : Dev nD) (h : Fin 8) (i : Fin 128) (d : Fin 64) : accE m c (ix2 (row b i) (ncol h d))
    = ∑ r : Fin 32, numA (xst m r) (wqst m r) (kst m r) (vst m r) b h i d := by
  rw [accEnd_apply]
  exact Finset.sum_congr rfl fun r _ => part_num _ _ _ _ b h i d

/-- and the summed exponentials. -/
theorem accEnd_den (b : Fin 2) (c : Dev nD) (h : Fin 8) (i : Fin 128) : accE m c (ix2 (row b i) (dcol h))
    = ∑ r : Fin 32, denA (xst m r) (wqst m r) (kst m r) b h i := by
  rw [accEnd_apply]
  exact Finset.sum_congr rfl fun r _ => part_den _ _ _ _ b h i

end Cert.KernelRun
-- ==== Proof.ValueOut.lean ====
/-
# The result, element by element

The store of the result divides each head's columns by the head's sum and projects: element `(b, i, e)` is the sum over heads
`h` and columns `d` of the quotient times the projection's element `(64 h + d, e)`.
-/
module

public import proofs.«01_k».proof.Proof.ValueSum
public import proofs.«01_k».proof.Proof.Launch

@[expose] public section

set_option maxRecDepth 16384

noncomputable section

namespace Cert.KernelRun

open Cert.KernelIdeal Cert.KernelIdeal.Gen
open Idealize.ShloMosaic
open Idealize.ShloMosaic.TcCoe

/-- A sum over all columns is the sum over the heads of the sums over their columns. -/
theorem sum_heads (F : Fin 512 → EReal) : ∑ x : Fin 512, F x = ∑ h : Fin 8, ∑ d : Fin 64, F (col h d) := by
  rw [← Fintype.sum_prod_type' (f := fun h d => F (col h d))]
  symm
  refine Fintype.sum_equiv (finProdFinEquiv (m := 8) (n := 64)) _ _ fun p => ?_
  congr 1
  refine Fin.ext ?_
  show 64 * p.1.val + p.2.val = p.2.val + 64 * p.1.val
  omega

/-- The quotient of head `h`, row `i` of batch `b`, column `d`. -/
def quot (A : FVec Ideal S256x640 .bf16) (b : Fin 2) (i : Fin 128) (h : Fin 8) (d : Fin 64) : EReal :=
  Ideal.div (A (ix2 (row b i) (ncol h d))) (A (ix2 (row b i) (dcol h)))

theorem pay72_apply (A : FVec Ideal S256x640 .bf16) (wo : FVec Ideal S512x512 .bf16) (b : Fin 2) (i : Fin 128) (e : Fin 512) :
    k0_pay72 (F := Ideal) (k0_pay69 (F := Ideal) A) (k0_pay70 (F := Ideal) A) (k0_pay71 (F := Ideal) A) wo (ix3 b i e)
      = ∑ h : Fin 8, ∑ d : Fin 64, quot A b i h d * wo (ix2 (col h d) e) := by
  pointwise [k0_pay72, k0_pay69, k0_pay70, k0_pay71]
  refine (sum_heads _).trans (Finset.sum_congr rfl fun h _ => Finset.sum_congr rfl fun d _ => ?_)
  have hr : ∀ hh, (⟨b.val * 128 + i.val, hh⟩ : Fin 256) = row b i := fun hh => Fin.ext (by show b.val * 128 + i.val = 128 * b.val + i.val; omega)
  have hd : d.val < 64 := d.isLt
  refine congrArg (· * wo (ix2 (col h d) e)) ?_
  match h with
  | 0 =>
    rw [dif_pos (by show 64 * 0 + d.val < 64; omega)]
    refine congrArg₂ Ideal.div (congrArg A (congrArg₂ ix2 (hr _) (Fin.ext ?_))) (congrArg A (congrArg₂ ix2 (hr _) (Fin.ext rfl)))
    show 64 * 0 + d.val = 64 * 0 + d.val
    omega
  | 1 =>
    rw [dif_neg (by show ¬ (64 * 1 + d.val < 64); omega)]
    rw [dif_pos (by show 64 * 1 + d.val - 64 < 64; omega)]
    refine congrArg₂ Ideal.div (congrArg A (congrArg₂ ix2 (hr _) (Fin.ext ?_))) (congrArg A (congrArg₂ ix2 (hr _) (Fin.ext rfl)))
    show 64 + (64 * 1 + d.val - 64) = 64 * 1 + d.val
    omega
  | 2 =>
    rw [dif_neg (by show ¬ (64 * 2 + d.val < 64); omega)]
    rw [dif_neg (by show ¬ (64 * 2 + d.val - 64 < 64); omega)]
    rw [dif_pos (by show 64 * 2 + d.val - 64 - 64 < 64; omega)]
    refine congrArg₂ Ideal.div (congrArg A (congrArg₂ ix2 (hr _) (Fin.ext ?_))) (congrArg A (congrArg₂ ix2 (hr _) (Fin.ext rfl)))
    show 128 + (64 * 2 + d.val - 64 - 64) = 64 * 2 + d.val
    omega
  | 3 =>
    rw [dif_neg (by show ¬ (64 * 3 + d.val < 64); omega)]
    rw [dif_neg (by show ¬ (64 * 3 + d.val - 64 < 64); omega)]
    rw [dif_neg (by show ¬ (64 * 3 + d.val - 64 - 64 < 64); omega)]
    rw [dif_pos (by show 64 * 3 + d.val - 64 - 64 - 64 < 64; omega)]
    refine congrArg₂ Ideal.div (congrArg A (congrArg₂ ix2 (hr _) (Fin.ext ?_))) (congrArg A (congrArg₂ ix2 (hr _) (Fin.ext rfl)))
    show 192 + (64 * 3 + d.val - 64 - 64 - 64) = 64 * 3 + d.val
    omega
  | 4 =>
    rw [dif_neg (by show ¬ (64 * 4 + d.val < 64); omega)]
    rw [dif_neg (by show ¬ (64 * 4 + d.val - 64 < 64); omega)]
    rw [dif_neg (by show ¬ (64 * 4 + d.val - 64 - 64 < 64); omega)]
    rw [dif_neg (by show ¬ (64 * 4 + d.val - 64 - 64 - 64 < 64); omega)]
    rw [dif_pos (by show 64 * 4 + d.val - 64 - 64 - 64 - 64 < 64; omega)]
    refine congrArg₂ Ideal.div (congrArg A (congrArg₂ ix2 (hr _) (Fin.ext ?_))) (congrArg A (congrArg₂ ix2 (hr _) (Fin.ext rfl)))
    show 256 + (64 * 4 + d.val - 64 - 64 - 64 - 64) = 64 * 4 + d.val
    omega
  | 5 =>
    rw [dif_neg (by show ¬ (64 * 5 + d.val < 64); omega)]
    rw [dif_neg (by show ¬ (64 * 5 + d.val - 64 < 64); omega)]
    rw [dif_neg (by show ¬ (64 * 5 + d.val - 64 - 64 < 64); omega)]
    rw [dif_neg (by show ¬ (64 * 5 + d.val - 64 - 64 - 64 < 64); omega)]
    rw [dif_neg (by show ¬ (64 * 5 + d.val - 64 - 64 - 64 - 64 < 64); omega)]
    rw [dif_pos (by show 64 * 5 + d.val - 64 - 64 - 64 - 64 - 64 < 64; omega)]
    refine congrArg₂ Ideal.div (congrArg A (congrArg₂ ix2 (hr _) (Fin.ext ?_))) (congrArg A (congrArg₂ ix2 (hr _) (Fin.ext rfl)))
    show 320 + (64 * 5 + d.val - 64 - 64 - 64 - 64 - 64) = 64 * 5 + d.val
    omega
  | 6 =>
    rw [dif_neg (by show ¬ (64 * 6 + d.val < 64); omega)]
    rw [dif_neg (by show ¬ (64 * 6 + d.val - 64 < 64); omega)]
    rw [dif_neg (by show ¬ (64 * 6 + d.val - 64 - 64 < 64); omega)]
    rw [dif_neg (by show ¬ (64 * 6 + d.val - 64 - 64 - 64 < 64); omega)]
    rw [dif_neg (by show ¬ (64 * 6 + d.val - 64 - 64 - 64 - 64 < 64); omega)]
    rw [dif_neg (by show ¬ (64 * 6 + d.val - 64 - 64 - 64 - 64 - 64 < 64); omega)]
    rw [dif_pos (by show 64 * 6 + d.val - 64 - 64 - 64 - 64 - 64 - 64 < 64; omega)]
    refine congrArg₂ Ideal.div (congrArg A (congrArg₂ ix2 (hr _) (Fin.ext ?_))) (congrArg A (congrArg₂ ix2 (hr _) (Fin.ext rfl)))
    show 384 + (64 * 6 + d.val - 64 - 64 - 64 - 64 - 64 - 64) = 64 * 6 + d.val
    omega
  | 7 =>
    rw [dif_neg (by show ¬ (64 * 7 + d.val < 64); omega)]
    rw [dif_neg (by show ¬ (64 * 7 + d.val - 64 < 64); omega)]
    rw [dif_neg (by show ¬ (64 * 7 + d.val - 64 - 64 < 64); omega)]
    rw [dif_neg (by show ¬ (64 * 7 + d.val - 64 - 64 - 64 < 64); omega)]
    rw [dif_neg (by show ¬ (64 * 7 + d.val - 64 - 64 - 64 - 64 < 64); omega)]
    rw [dif_neg (by show ¬ (64 * 7 + d.val - 64 - 64 - 64 - 64 - 64 < 64); omega)]
    rw [dif_neg (by show ¬ (64 * 7 + d.val - 64 - 64 - 64 - 64 - 64 - 64 < 64); omega)]
    refine congrArg₂ Ideal.div (congrArg A (congrArg₂ ix2 (hr _) (Fin.ext ?_))) (congrArg A (congrArg₂ ix2 (hr _) (Fin.ext rfl)))
    show 448 + (64 * 7 + d.val - 64 - 64 - 64 - 64 - 64 - 64 - 64) = 64 * 7 + d.val
    omega

/-! ## The arrays -/

section

variable {F : FTy → Type} [FloatOps F] (m : (ℓ : Loc nD τ sig) → Buf (Elt F) ℓ) (ρ : Dev nD → PrngReg)

/-- Each operand is staged whole. -/
theorem xst_eq (c : Dev nD) : xst m c = m ((c : Thread nD τ).loc main_arg0) := by
  funext y
  show m ((c : Thread nD τ).loc main_arg0) _ = _
  congr 1
  funext a
  refine Fin.ext ?_
  match a with
  | ⟨0, _⟩ => show 0 * 2 + 1 * (y (0 : Fin 3)).val = (y (0 : Fin 3)).val; omega
  | ⟨1, _⟩ => show 0 * 128 + 1 * (y (1 : Fin 3)).val = (y (1 : Fin 3)).val; omega
  | ⟨2, _⟩ => show 0 * 512 + 1 * (y (2 : Fin 3)).val = (y (2 : Fin 3)).val; omega

theorem wqst_eq (c : Dev nD) : wqst m c = m ((c : Thread nD τ).loc main_arg1) := by
  funext y
  show m ((c : Thread nD τ).loc main_arg1) _ = _
  congr 1
  funext a
  refine Fin.ext ?_
  match a with
  | ⟨0, _⟩ => show 0 * 512 + 1 * (y (0 : Fin 2)).val = (y (0 : Fin 2)).val; omega
  | ⟨1, _⟩ => show 0 * 512 + 1 * (y (1 : Fin 2)).val = (y (1 : Fin 2)).val; omega

theorem wost_eq (c : Dev nD) : wost m c = m ((c : Thread nD τ).loc main_arg2) := by
  funext y
  show m ((c : Thread nD τ).loc main_arg2) _ = _
  congr 1
  funext a
  refine Fin.ext ?_
  match a with
  | ⟨0, _⟩ => show 0 * 512 + 1 * (y (0 : Fin 2)).val = (y (0 : Fin 2)).val; omega
  | ⟨1, _⟩ => show 0 * 512 + 1 * (y (1 : Fin 2)).val = (y (1 : Fin 2)).val; omega

theorem kst_eq (c : Dev nD) : kst m c = m ((c : Thread nD τ).loc main_arg3) := by
  funext y
  show m ((c : Thread nD τ).loc main_arg3) _ = _
  congr 1
  funext a
  refine Fin.ext ?_
  match a with
  | ⟨0, _⟩ => show 0 * 2 + 1 * (y (0 : Fin 4)).val = (y (0 : Fin 4)).val; omega
  | ⟨1, _⟩ => show 0 * 128 + 1 * (y (1 : Fin 4)).val = (y (1 : Fin 4)).val; omega
  | ⟨2, _⟩ => show 0 * 8 + 1 * (y (2 : Fin 4)).val = (y (2 : Fin 4)).val; omega
  | ⟨3, _⟩ => show 0 * 64 + 1 * (y (3 : Fin 4)).val = (y (3 : Fin 4)).val; omega

theorem vst_eq (c : Dev nD) : vst m c = m ((c : Thread nD τ).loc main_arg4) := by
  funext y
  show m ((c : Thread nD τ).loc main_arg4) _ = _
  congr 1
  funext a
  refine Fin.ext ?_
  match a with
  | ⟨0, _⟩ => show 0 * 2 + 1 * (y (0 : Fin 4)).val = (y (0 : Fin 4)).val; omega
  | ⟨1, _⟩ => show 0 * 128 + 1 * (y (1 : Fin 4)).val = (y (1 : Fin 4)).val; omega
  | ⟨2, _⟩ => show 0 * 8 + 1 * (y (2 : Fin 4)).val = (y (2 : Fin 4)).val; omega
  | ⟨3, _⟩ => show 0 * 64 + 1 * (y (3 : Fin 4)).val = (y (3 : Fin 4)).val; omega

theorem finalA_out (c : Dev nD) : ((cfg0.win (5 : Fin 6)).blk t0_0).view.read (Elt F) (finalA m ρ c (5 : Fin 6)) = outv m c := by
  have h := (dats m ρ 0 c).arrAt_succ (5 : Fin 6) t0_0
  have h2 : finalA m ρ c (5 : Fin 6) = ((cfg0.win (5 : Fin 6)).blk t0_0).view.write (Elt F) ((dats m ρ 0 c).arrAt (5 : Fin 6) t0_0)
      ((dats m ρ 0 c).flushed (5 : Fin 6) t0_0) Finset.univ := by
    refine Eq.trans h ?_
    exact if_pos (flush0_5 t0_0)
  rw [h2]
  exact View.read_write_univ ..

theorem out_block (y : S2x128x512.Idx) : ((cfg0.win (5 : Fin 6)).blk t0_0).view.emb y = y := by
  funext a
  refine Fin.ext ?_
  match a with
  | ⟨0, _⟩ => show 0 * 2 + 1 * (y (0 : Fin 3)).val = (y (0 : Fin 3)).val; omega
  | ⟨1, _⟩ => show 0 * 128 + 1 * (y (1 : Fin 3)).val = (y (1 : Fin 3)).val; omega
  | ⟨2, _⟩ => show 0 * 512 + 1 * (y (2 : Fin 3)).val = (y (2 : Fin 3)).val; omega

/-- The result's array ends at what the device stores. -/
theorem result_eq (c : Dev nD) : (finalA m ρ c (5 : Fin 6) : S2x128x512.Idx → Elt F .f32) = outv m c := by
  rw [← finalA_out m ρ c]
  funext y
  show _ = finalA m ρ c (5 : Fin 6) _
  exact (congrArg (finalA m ρ c (5 : Fin 6)) (out_block y)).symm

end

/-- The result's element, in terms of the operands of all the devices. -/
theorem outv_apply (m : (ℓ : Loc nD τ sig) → Buf (Elt Ideal) ℓ) (c : Dev nD) (wo : FVec Ideal S512x512 .bf16) (hwo : wost m c = wo)
    (b : Fin 2) (i : Fin 128) (e : Fin 512) :
    (outv (F := Ideal) m c : FVec Ideal S2x128x512 .f32) (ix3 b i e) = ∑ h : Fin 8, ∑ d : Fin 64,
      Ideal.div (∑ r : Fin 32, numA (xst m r) (wqst m r) (kst m r) (vst m r) b h i d) (∑ r : Fin 32, denA (xst m r) (wqst m r) (kst m r) b h i)
        * wo (ix2 (col h d) e) := by
  subst hwo
  refine (pay72_apply (accE m c) (wost m c) b i e).trans ?_
  refine Finset.sum_congr rfl fun h _ => Finset.sum_congr rfl fun d _ => ?_
  rw [quot, accEnd_num, accEnd_den]

end Cert.KernelRun
-- ==== Proof.Softmax.lean ====
/-
# The quotient of weighted sums of exponentials

Over the extended reals: for real scores the quotient of the sum of exponentials times values by the sum of exponentials does not
change when a real number is taken off every score. The values need not be real.
-/
module

public import Idealize.ShloMosaic.PureOps.Ideal.Laws

@[expose] public section

noncomputable section

namespace Cert.Softmax

open Idealize.ShloMosaic

/-! ## Constants -/

theorem negInf : Ideal.ofBits .f32 0xFF800000#32 = (⊥ : EReal) := by simp [Ideal.ofBits, Ideal.ieee]

theorem posInf : Ideal.ofBits .f32 0x7F800000#32 = (⊤ : EReal) := by simp [Ideal.ofBits, Ideal.ieee]

/-! ## Real elements -/

/-- An extended real that is a real. -/
def IsReal (a : EReal) : Prop := ∃ r : ℝ, a = (r : EReal)

theorem isReal_eighth : IsReal (Ideal.ofBits .f32 0x3E000000#32) :=
  ⟨1 / 8, by
    simp only [Ideal.ofBits, Ideal.ieee]
    simp
    rw [← EReal.coe_mul]
    norm_num⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  refine ⟨∑ i, g i, ?_⟩
  rw [coe_sum]
  exact Finset.sum_congr rfl fun i _ => hg i

theorem isReal_of_abs_lt {a : EReal} (h : max a (-a) < ⊤) : IsReal a := by
  induction a with
  | bot => exact absurd h (by simp)
  | top => exact absurd h (by simp)
  | coe r => exact ⟨r, rfl⟩

theorem isReal_fold_max {ι : Type} [Fintype ι] [Nonempty ι] {f : ι → EReal} (h : ∀ i, IsReal (f i)) :
    IsReal (Finset.univ.fold max ⊥ f) := by
  classical
  have key : ∀ S : Finset ι, S.Nonempty → IsReal (S.fold max ⊥ f) := by
    intro S hS
    induction hS using Finset.Nonempty.cons_induction with
    | singleton a => simpa using h a
    | cons a S ha hS ih =>
      rw [Finset.fold_cons]
      rcases max_choice (f a) (S.fold max ⊥ f) with hm | hm
      · rw [hm]; exact h a
      · rw [hm]; exact ih
  exact key _ Finset.univ_nonempty

/-! ## Sums -/

/-- A real factor that is not negative goes into a sum. -/
theorem mul_sum_coe {ι : Type} (S : Finset ι) (r : ℝ) (hr : 0 ≤ r) (f : ι → EReal) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- A sum over `m n` positions as `m` sums over `n`. -/
theorem sum_split (m n : ℕ) {M : Type} [AddCommMonoid M] (F : Fin (m * n) → M) :
    ∑ x, F x = ∑ h : Fin m, ∑ d : Fin n, F ⟨h.val * n + d.val, by
      have h1 := h.isLt
      have h2 := d.isLt
      calc h.val * n + d.val < h.val * n + n := by omega
        _ = (h.val + 1) * n := by rw [Nat.add_mul, Nat.one_mul]
        _ ≤ m * n := Nat.mul_le_mul_right n h1⟩ := by
  rw [← Fintype.sum_prod_type' (f := fun h d => F _)]
  symm
  refine Fintype.sum_equiv (finProdFinEquiv (m := m) (n := n)) _ _ fun p => ?_
  refine congrArg F (Fin.ext ?_)
  show p.1.val * n + p.2.val = p.2.val + n * p.1.val
  rw [Nat.mul_comm, Nat.add_comm]

/-! ## The quotient -/

theorem exp_sub (s μ : ℝ) : Ideal.exp ((s : EReal) - (μ : EReal)) = ((Real.exp (-μ) : ℝ) : EReal) * ((Real.exp s : ℝ) : EReal) := by
  rw [← EReal.coe_sub, ← EReal.coe_mul, ← Real.exp_add, show -μ + s = s - μ by ring]
  rfl

/-- Taking the same real number off every score leaves the quotient as it is. -/
theorem quotient_shift {ι : Type} [Fintype ι] [Nonempty ι] (s v : ι → EReal) (μ : EReal) (hs : ∀ j, IsReal (s j)) (hμ : IsReal μ) :
    Ideal.div (∑ j, v j * Ideal.exp (s j - μ)) (∑ j, Ideal.exp (s j - μ)) = Ideal.div (∑ j, Ideal.exp (s j) * v j) (∑ j, Ideal.exp (s j)) := by
  choose t ht using hs
  obtain ⟨u, rfl⟩ := hμ
  obtain rfl : s = fun j => (t j : EReal) := funext ht
  have hr : (0 : ℝ) < Real.exp (-u) := Real.exp_pos _
  have h1 : ∑ j, v j * Ideal.exp ((t j : EReal) - (u : EReal)) = ((Real.exp (-u) : ℝ) : EReal) * ∑ j, ((Real.exp (t j) : ℝ) : EReal) * v j := by
    rw [mul_sum_coe _ _ hr.le]
    refine Finset.sum_congr rfl fun j _ => ?_
    rw [exp_sub, mul_comm, mul_assoc]
  have h2 : ∑ j, Ideal.exp ((t j : EReal) - (u : EReal)) = ((Real.exp (-u) * ∑ j, Real.exp (t j) : ℝ) : EReal) := by
    rw [EReal.coe_mul, coe_sum, mul_sum_coe _ _ hr.le]
    exact Finset.sum_congr rfl fun j _ => exp_sub _ _
  have h3 : ∑ j, Ideal.exp ((t j : EReal)) = ((∑ j, Real.exp (t j) : ℝ) : EReal) := by
    rw [coe_sum]
    rfl
  have hl : (0 : ℝ) < ∑ j, Real.exp (t j) := Finset.sum_pos (fun j _ => Real.exp_pos _) Finset.univ_nonempty
  show Ideal.div _ _ = Ideal.div (∑ j, ((Real.exp (t j) : ℝ) : EReal) * v j) (∑ j, Ideal.exp ((t j : EReal)))
  rw [h1, h2, h3]
  generalize (∑ j, ((Real.exp (t j) : ℝ) : EReal) * v j) = a
  generalize (∑ j, Real.exp (t j)) = l at hl
  generalize Real.exp (-u) = r at hr
  unfold Ideal.div
  rw [if_neg (by exact_mod_cast (mul_pos hr hl).ne'), if_neg (by exact_mod_cast hl.ne')]
  rw [← EReal.coe_inv, ← EReal.coe_inv, mul_inv, EReal.coe_mul, mul_comm (r : EReal) a, mul_assoc, ← mul_assoc (r : EReal), ← EReal.coe_mul,
    mul_inv_cancel₀ hr.ne', EReal.coe_one, one_mul]

end Cert.Softmax
-- ==== Proof.ValueRef.lean ====
/-
# The reference, element by element

The reference's attention over all 4096 rows of keys and values: the scores, their maximum, the exponentials of the differences,
their sum, the quotient and the projection, each read at an element over the extended reals.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.AttentionRef

open Cert.ReferenceIdeal Cert.ReferenceIdeal.Gen
open Idealize.ShloMosaic
open Idealize.ShloMosaic.TcCoe

variable (x : FVec Ideal S2x128x512 .bf16) (wq wo : FVec Ideal S512x512 .bf16) (K V : FVec Ideal S2x4096x8x64 .bf16)

/-! ## The steps -/

/-- The scaled scores, -/
def scores : FVec Ideal S2x8x128x4096 .f32 :=
  mulf (Host.dotGeneral dot_S2x128x8x64_S2x4096x8x64_S2x8x128x4096_3_3_1_1_02_02 none (shapeCast _ (Host.dotGeneral dot_S2x128x512_S512x512_S2x128x512_2_0_01_1_n_n none (extf .f32 x bitsLt_bf16_f32) (extf .f32 wq bitsLt_bf16_f32)) shapeCasts_S2x128x512_S2x128x8x64) (extf .f32 K bitsLt_bf16_f32)) (broadcastInDim S2x8x128x4096 ![] bcast_S_S2x8x128x4096 (constant S_ .f32 0x3E000000#32))
/-- their maximum over the rows, -/
def maxima (s : FVec Ideal S2x8x128x4096 .f32) : FVec Ideal S2x8x128 .f32 :=
  Host.reduce FloatOps.maximumf s (constant S_ .f32 0xFF800000#32) reducesTo_S2x8x128x4096_S2x8x128_d3 h_S_
/-- the exponentials of the differences, -/
def exps (s : FVec Ideal S2x8x128x4096 .f32) (m : FVec Ideal S2x8x128 .f32) : FVec Ideal S2x8x128x4096 .f32 :=
  Host.exp (subf s (broadcastInDim S2x8x128x4096 ![0, 1, 2, 3] bcast_S2x8x128x1_S2x8x128x4096_0_1_2_3 (broadcastInDim S2x8x128x1 ![0, 1, 2] bcast_S2x8x128_S2x8x128x1_0_1_2 m)))
/-- their sum over the rows, -/
def sums (p : FVec Ideal S2x8x128x4096 .f32) : FVec Ideal S2x8x128 .f32 :=
  Host.reduceAdd p (constant S_ .f32 0x00000000#32) reducesTo_S2x8x128x4096_S2x8x128_d3 h_S_
/-- the attention before the division, -/
def mixed (p : FVec Ideal S2x8x128x4096 .f32) : FVec Ideal S2x128x8x64 .f32 :=
  transpose S2x128x8x64 [0, 3, 1, 2] (Host.dotGeneral dot_S2x4096x8x64_S2x8x128x4096_S2x8x64x128_1_3_3_2_02_01 none (extf .f32 V bitsLt_bf16_f32) p) transposes_S2x8x64x128_S2x128x8x64_0_3_1_2
/-- the quotient, -/
def quotient (o : FVec Ideal S2x128x8x64 .f32) (l : FVec Ideal S2x8x128 .f32) : FVec Ideal S2x128x8x64 .f32 :=
  Host.divf o (broadcastInDim S2x128x8x64 ![0, 1, 2, 3] bcast_S2x128x8x1_S2x128x8x64_0_1_2_3 (transpose S2x128x8x1 [0, 2, 1, 3] (broadcastInDim S2x8x128x1 ![0, 1, 2] bcast_S2x8x128_S2x8x128x1_0_1_2 l) transposes_S2x8x128x1_S2x128x8x1_0_2_1_3))
/-- and the projection. -/
def project (o : FVec Ideal S2x128x8x64 .f32) : FVec Ideal S2x128x512 .f32 :=
  Host.dotGeneral dot_S2x128x512_S512x512_S2x128x512_2_0_01_1_n_n none (shapeCast _ o shapeCasts_S2x128x8x64_S2x128x512) (extf .f32 wo bitsLt_bf16_f32)

/-- The reference's result. -/
def result : FVec Ideal S2x128x512 .f32 :=
  project wo (quotient (mixed V (exps (scores x wq K) (maxima (scores x wq K)))) (sums (exps (scores x wq K) (maxima (scores x wq K)))))

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-! ## The steps at an element -/

/-- Column `d` of head `h` among the columns of all heads. -/
def rcol (h : Fin 8) (d : Fin 64) : Fin 512 := ⟨h.val * 64 + d.val, by omega⟩

theorem scores_apply (b : Fin 2) (h : Fin 8) (i : Fin 128) (j : Fin 4096) : scores x wq K (ix4 b h i j)
    = (∑ d : Fin 64, (∑ e : Fin 512, x (ix3 b i e) * wq (ix2 e (rcol h d))) * K (ix4 b j h d)) * Ideal.ofBits .f32 0x3E000000#32 := by
  pointwise [scores]
  rfl

theorem maxima_apply (s : FVec Ideal S2x8x128x4096 .f32) (b : Fin 2) (h : Fin 8) (i : Fin 128) :
    maxima s (ix3 b h i) = Finset.univ.fold max (⊥ : EReal) fun j : Fin 4096 => s (ix4 b h i j) := by
  pointwise [maxima]
  rw [Cert.Softmax.negInf]

theorem exps_apply (s : FVec Ideal S2x8x128x4096 .f32) (m : FVec Ideal S2x8x128 .f32) (b : Fin 2) (h : Fin 8) (i : Fin 128) (j : Fin 4096) :
    exps s m (ix4 b h i j) = Ideal.exp (s (ix4 b h i j) - m (ix3 b h i)) := by
  pointwise [exps]

theorem sums_apply (p : FVec Ideal S2x8x128x4096 .f32) (b : Fin 2) (h : Fin 8) (i : Fin 128) :
    sums p (ix3 b h i) = ∑ j : Fin 4096, p (ix4 b h i j) := by
  pointwise [sums]

theorem mixed_apply (p : FVec Ideal S2x8x128x4096 .f32) (b : Fin 2) (h : Fin 8) (i : Fin 128) (d : Fin 64) :
    mixed V p (ix4 b i h d) = ∑ j : Fin 4096, V (ix4 b j h d) * p (ix4 b h i j) := by
  pointwise [mixed]

theorem quotient_apply (o : FVec Ideal S2x128x8x64 .f32) (l : FVec Ideal S2x8x128 .f32) (b : Fin 2) (h : Fin 8) (i : Fin 128) (d : Fin 64) :
    quotient o l (ix4 b i h d) = Ideal.div (o (ix4 b i h d)) (l (ix3 b h i)) := by
  pointwise [quotient]

theorem project_apply (o : FVec Ideal S2x128x8x64 .f32) (b : Fin 2) (i : Fin 128) (e : Fin 512) :
    project wo o (ix3 b i e) = ∑ h : Fin 8, ∑ d : Fin 64, o (ix4 b i h d) * wo (ix2 (rcol h d) e) := by
  pointwise [project]
  refine (Cert.Softmax.sum_split 8 64 _).trans (Finset.sum_congr rfl fun h _ => Finset.sum_congr rfl fun d _ => ?_)
  have hd : d.val < 64 := d.isLt
  refine congrArg₂ (fun p q => o (ix4 b i p q) * wo (ix2 (rcol h d) e)) (Fin.ext ?_) (Fin.ext ?_)
  · show (h.val * 64 + d.val) / 64 = h.val
    omega
  · show (h.val * 64 + d.val) % 64 = d.val
    omega

end Cert.AttentionRef
-- ==== Proof.Algebraic.lean ====
/-
# The kernel and the reference have one result

The devices' blocks of keys and values together are the reference's rows, so the sums the kernel adds over the devices are sums over
all rows; taking the maximum off the scores does not change the quotient, as the scores are real.
-/
module

public import proofs.«01_k».proof.Defs
public import proofs.«01_k».proof.Proof.ValueOut
public import proofs.«01_k».proof.Proof.ValueRef
public import proofs.«01_k».proof.Proof.Frames
public import proofs.«01_k».proof.Proof.Gen.Pre_finite_KernelIdeal
public import proofs.«01_k».proof.Proof.Gen.Pre_finite_ReferenceIdeal
public import Idealize.ShloMosaic.Lib.ReduceAll
public import Idealize.ShloMosaic.Lib.LayoutAt

@[expose] public section

set_option maxRecDepth 16384

noncomputable section

namespace Cert.Attention

open Idealize.ShloMosaic
open Idealize.ShloMosaic.TcCoe
open Cert.Softmax (IsReal)
open Cert.KernelRun (col qry scoreA numA denA)
open Cert.AttentionRef (rcol scores maxima exps sums mixed quotient project result)

abbrev SX : Shape := ⟨3, ![2, 128, 512]⟩
abbrev SW : Shape := ⟨2, ![512, 512]⟩
abbrev SB : Shape := ⟨4, ![2, 128, 8, 64]⟩
abbrev SK : Shape := ⟨4, ![2, 4096, 8, 64]⟩

/-! ## The reference without the maximum -/

section
variable (x : FVec Ideal SX .bf16) (wq wo : FVec Ideal SW .bf16) (K V : FVec Ideal SK .bf16)

theorem scores_real (hx : ∀ i, IsReal (x i)) (hw : ∀ i, IsReal (wq i)) (hK : ∀ i, IsReal (K i)) (b : Fin 2) (h : Fin 8) (i : Fin 128) (j : Fin 4096) :
    IsReal (scores x wq K (ix4 b h i j)) := by
  rw [Cert.AttentionRef.scores_apply]
  exact IsReal.mul (IsReal.sum fun d => IsReal.mul (IsReal.sum fun e => IsReal.mul (hx _) (hw _)) (hK _)) Cert.Softmax.isReal_eighth

theorem result_apply (hx : ∀ i, IsReal (x i)) (hw : ∀ i, IsReal (wq i)) (hK : ∀ i, IsReal (K i)) (b : Fin 2) (i : Fin 128) (e : Fin 512) :
    result x wq wo K V (ix3 b i e) = ∑ h : Fin 8, ∑ d : Fin 64,
      Ideal.div (∑ j : Fin 4096, Ideal.exp (scores x wq K (ix4 b h i j)) * V (ix4 b j h d)) (∑ j : Fin 4096, Ideal.exp (scores x wq K (ix4 b h i j)))
        * wo (ix2 (rcol h d) e) := by
  unfold result
  rw [Cert.AttentionRef.project_apply]
  refine Finset.sum_congr rfl fun h _ => Finset.sum_congr rfl fun d _ => congrArg (fun z : EReal => z * wo (ix2 (rcol h d) e)) ?_
  rw [Cert.AttentionRef.quotient_apply, Cert.AttentionRef.mixed_apply, Cert.AttentionRef.sums_apply]
  have hm : IsReal (maxima (scores x wq K) (ix3 b h i)) := by
    rw [Cert.AttentionRef.maxima_apply]
    exact Cert.Softmax.isReal_fold_max fun j => scores_real x wq K hx hw hK b h i j
  refine Eq.trans ?_ (Cert.Softmax.quotient_shift (fun j : Fin 4096 => scores x wq K (ix4 b h i j)) (fun j => V (ix4 b j h d)) _
    (fun j => scores_real x wq K hx hw hK b h i j) hm)
  exact congrArg₂ Ideal.div (Finset.sum_congr rfl fun j _ => by rw [Cert.AttentionRef.exps_apply]) (Finset.sum_congr rfl fun j _ => by rw [Cert.AttentionRef.exps_apply])

/-! ## The devices' blocks -/

/-- Row `j` of device `r` among all rows. -/
def krow (r : Fin 32) (j : Fin 128) : Fin 4096 := ⟨r.val * 128 + j.val, by omega⟩

theorem sum_rows (F : Fin 4096 → EReal) : ∑ j, F j = ∑ r : Fin 32, ∑ j : Fin 128, F (krow r j) := Cert.Softmax.sum_split 32 128 F

/-- Device `r`'s block of keys, or of values. -/
def blk (r : Fin 32) : FVec Ideal SB .bf16 := Layout.block SB SK 1 32 r K

theorem block_row (r : Fin 32) (b : Fin 2) (j : Fin 128) (h : Fin 8) (d : Fin 64) :
    blk K r (ix4 b j h d) = K (ix4 b (krow r j) h d) := by
  unfold blk krow
  simp only [Layout.block_apply]
  shard_ext

theorem col_eq (h : Fin 8) (d : Fin 64) : col h d = rcol h d := Fin.ext (by
  show 64 * h.val + d.val = h.val * 64 + d.val
  omega)

theorem score_block (r : Fin 32) (b : Fin 2) (h : Fin 8) (i j : Fin 128) :
    scoreA x wq (blk K r) b h i j = scores x wq K (ix4 b h i (krow r j)) := by
  rw [Cert.AttentionRef.scores_apply]
  unfold scoreA qry
  refine congrArg (fun z : EReal => z * Ideal.ofBits .f32 0x3E000000#32) (Finset.sum_congr rfl fun d _ => ?_)
  rw [block_row, col_eq]

theorem num_blocks (b : Fin 2) (h : Fin 8) (i : Fin 128) (d : Fin 64) :
    ∑ r : Fin 32, numA x wq (blk K r) (blk V r) b h i d
      = ∑ j : Fin 4096, Ideal.exp (scores x wq K (ix4 b h i j)) * V (ix4 b j h d) := by
  rw [sum_rows]
  unfold numA
  exact Finset.sum_congr rfl fun r _ => Finset.sum_congr rfl fun j _ => by rw [score_block, block_row]

theorem den_blocks (b : Fin 2) (h : Fin 8) (i : Fin 128) :
    ∑ r : Fin 32, denA x wq (blk K r) b h i = ∑ j : Fin 4096, Ideal.exp (scores x wq K (ix4 b h i j)) := by
  rw [sum_rows]
  unfold denA
  exact Finset.sum_congr rfl fun r _ => Finset.sum_congr rfl fun j _ => by rw [score_block]

end

/-! ## The precondition -/

theorem real_of_bit (a : EReal) (h : FloatOps.cmpf (F := Ideal) (φ := .f32) .olt (max a (-a) : EReal) (Ideal.ofBits .f32 0x7F800000#32) = 1#1) : IsReal a := by
  rw [Cert.Softmax.posInf] at h
  refine Cert.Softmax.isReal_of_abs_lt ?_
  by_contra hn
  have h' : Ideal.cmp .olt (max a (-a)) ⊤ = 1#1 := h
  simp only [Ideal.cmp] at h'
  simp [hn] at h'

theorem real_of_pre [Cert.Pre_finite_KernelIdeal.Facts] (x : FVec Ideal SX .bf16) (wq wo : FVec Ideal SW .bf16) (k v : FVec Ideal SB .bf16)
    (h : Cert.Pre_finite_KernelIdeal.fn (F := Ideal) x wq wo k v = fun _ => 1#1) :
    (∀ i, IsReal (x i)) ∧ (∀ i, IsReal (wq i)) ∧ (∀ i, IsReal (k i)) := by
  have h0 := congrFun h (Shape.Idx.first Cert.Pre_finite_KernelIdeal.Facts.h_S_)
  obtain ⟨h1, hk⟩ := IntOp.andi_eq_one.1 h0
  obtain ⟨hx, hw⟩ := IntOp.andi_eq_one.1 h1
  haveI : Subsingleton Cert.Pre_finite_KernelIdeal.S_.Idx := ⟨fun a b => funext fun i => i.elim0⟩
  refine ⟨fun i => real_of_bit _ ?_, fun i => real_of_bit _ ?_, fun i => real_of_bit _ ?_⟩
  · exact Host.reduce_andi_all _ _ _ _ _ hx i
  · exact Host.reduce_andi_all _ _ _ _ _ hw i
  · exact Host.reduce_andi_all _ _ _ _ _ hk i

/-! ## The claim -/

open Cert.KernelIdeal Cert.KernelIdeal.Gen

theorem real_rows (K : FVec Ideal SK .bf16) (hK : ∀ r i, IsReal (blk K r i)) (i : SK.Idx) : IsReal (K i) := by
  obtain ⟨b, j, h, d, rfl⟩ : ∃ b j h d, i = ix4 b j h d := ⟨i 0, i 1, i 2, i 3, by
    funext a
    match a with
    | ⟨0, _⟩ => rfl
    | ⟨1, _⟩ => rfl
    | ⟨2, _⟩ => rfl
    | ⟨3, _⟩ => rfl⟩
  have hj : j.val < 4096 := j.isLt
  have e : j = krow ⟨j.val / 128, by omega⟩ ⟨j.val % 128, by omega⟩ := Fin.ext (by
    show j.val = j.val / 128 * 128 + j.val % 128
    omega)
  rw [e, ← block_row K]
  exact hK _ _

/-- The kernel's result on every device is the reference's. -/
theorem outv_eq (m : (ℓ : Loc nD τ sig) → Buf (Elt Ideal) ℓ) (x : FVec Ideal SX .bf16) (wq wo : FVec Ideal SW .bf16) (K V : FVec Ideal SK .bf16)
    (hx : ∀ i, IsReal (x i)) (hw : ∀ i, IsReal (wq i)) (hK : ∀ i, IsReal (K i))
    (h0 : ∀ c, Cert.KernelRun.xst m c = x) (h1 : ∀ c, Cert.KernelRun.wqst m c = wq) (h2 : ∀ c, Cert.KernelRun.wost m c = wo)
    (h3 : ∀ c, Cert.KernelRun.kst m c = blk K c) (h4 : ∀ c, Cert.KernelRun.vst m c = blk V c) (c : Dev nD) :
    Cert.KernelRun.outv m c = result x wq wo K V := by
  funext i
  obtain ⟨b, p, e, rfl⟩ : ∃ b p e, i = ix3 b p e := ⟨i 0, i 1, i 2, by
    funext a
    match a with
    | ⟨0, _⟩ => rfl
    | ⟨1, _⟩ => rfl
    | ⟨2, _⟩ => rfl⟩
  have hA := Cert.KernelRun.outv_apply m c wo (h2 c) b p e
  simp only [h0, h1, h3, h4, num_blocks, den_blocks, col_eq] at hA
  exact hA.trans (result_apply x wq wo K V hx hw hK b p e).symm

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hin
  have hr := fun c => real_of_pre _ _ _ _ _ (hpre c)
  have hx := (hr 0).1
  rw [(hin 0).1] at hx
  have hw := (hr 0).2.1
  rw [(hin 0).2.1] at hw
  have hK := real_rows _ fun c => by
    have := (hr c).2.2
    rw [(hin c).2.2.2.1] at this
    exact this
  refine ⟨result _ _ _ _ _, (θ_run _ _ _).mono ?_ (Cert.KernelRun.run_main m g),
    (θ_run _ _ _).mono (fun r h => h 0) (Cert.AttentionRef.run_result m' g')⟩
  rintro r ⟨h, -⟩ c
  refine ⟨?_, Cert.KernelRun.inputs_kept m g r h c⟩
  refine (h c (5 : Fin 6)).trans ?_
  refine (Cert.KernelRun.result_eq m g c).trans ?_
  exact outv_eq m _ _ _ _ _ hx hw hK (fun c => (Cert.KernelRun.xst_eq m c).trans (hin c).1) (fun c => (Cert.KernelRun.wqst_eq m c).trans (hin c).2.1)
    (fun c => (Cert.KernelRun.wost_eq m c).trans (hin c).2.2.1) (fun c => (Cert.KernelRun.kst_eq m c).trans (hin c).2.2.2.1)
    (fun c => (Cert.KernelRun.vst_eq m c).trans (hin c).2.2.2.2) c

theorem frame_ideal_finite : Cert.quiescent_KernelIdeal_pre_finite_KernelIdeal (hKernelIdeal := Cert.KernelIdeal.Gen.facts)
    (hPre_finite_KernelIdeal := Cert.Pre_finite_KernelIdeal.Gen.facts) := fun m ρ _ => Cert.KernelRun.run_kept (F := Ideal) m ρ

theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) := fun m ρ _ => Cert.KernelRun.frame_reference m ρ trivial

end Cert.Attention
-- ==== Proof.lean ====
module

public import proofs.«01_k».proof.Proof.Frames
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.KernelRun.frame_kernel, Cert.KernelRun.frame_ideal, Cert.Attention.frame_ideal_finite, Cert.KernelRun.frame_reference,
  Cert.Attention.frame_reference_finite, trivial, Cert.Attention.algebraic⟩

end Cert.Proof

end
